-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_operands : Cert.Pre_finite_operands.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ preserves_Kernel_KernelIdeal
    ∧ algebraic_KernelIdeal_ReferenceIdeal_pre_finite_operands (hKernelIdeal := hKernelIdeal) (hReferenceIdeal := hReferenceIdeal) (hPre_finite_operands := hPre_finite_operands)
-- ==== Pre_finite_operands.lean ====
abbrev S16x2048x1024 : Shape := ⟨3, ![16, 2048, 1024]⟩
abbrev S8x1024 : Shape := ⟨2, ![8, 1024]⟩
abbrev S64x1024 : Shape := ⟨2, ![64, 1024]⟩
abbrev S64 : Shape := ⟨1, ![64]⟩
abbrev S192x64 : Shape := ⟨2, ![192, 64]⟩
abbrev S192 : Shape := ⟨1, ![192]⟩
abbrev S8x64 : Shape := ⟨2, ![8, 64]⟩
abbrev S_ : Shape := ⟨0, ![]⟩

class Facts : Prop where
  bcast_S_S16x2048x1024 : S_.BroadcastsInDim S16x2048x1024 (![] : Fin 0 → Fin S16x2048x1024.rank)
  bcast_S_S8x1024 : S_.BroadcastsInDim S8x1024 (![] : Fin 0 → Fin S8x1024.rank)
  bcast_S_S64x1024 : S_.BroadcastsInDim S64x1024 (![] : Fin 0 → Fin S64x1024.rank)
  bcast_S_S192x64 : S_.BroadcastsInDim S192x64 (![] : Fin 0 → Fin S192x64.rank)

variable [Facts]

def fn {F : FTy → Type} [FloatOps F] (main_arg0 : FVec F S16x2048x1024 .f32) (main_arg1 : FVec F S8x1024 .f32) (main_arg2 : FVec F S64x1024 .f32) (main_arg3 : FVec F S64 .f32) (main_arg4 : FVec F S192x64 .f32) (main_arg5 : FVec F S192x64 .f32) (main_arg6 : FVec F S192 .f32) (main_arg7 : FVec F S192 .f32) (main_arg8 : FVec F S8x64 .f32) : IVec S16x2048x1024 1 × IVec S8x1024 1 × IVec S64x1024 1 × IVec S192x64 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S64x1024 .f32 := Host.absf main_arg2
  let main_cst_1 : FVec F S_ .f32 := constant S_ .f32 0x7F800000#32
  let main_v7 : FVec F S64x1024 .f32 := broadcastInDim S64x1024 ![] bcast_S_S64x1024 main_cst_1
  let main_v8 : IVec S64x1024 1 := cmpf .olt main_v6 main_v7
  let main_v9 : FVec F S192x64 .f32 := Host.absf main_arg4
  let main_cst_2 : FVec F S_ .f32 := constant S_ .f32 0x7F800000#32
  let main_v10 : FVec F S192x64 .f32 := broadcastInDim S192x64 ![] bcast_S_S192x64 main_cst_2
  let main_v11 : IVec S192x64 1 := cmpf .olt main_v9 main_v10
  (main_v2, main_v5, main_v8, main_v11)
-- ==== Kernel.lean ====
abbrev S16x2048x1024 : Shape := ⟨3, ![16, 2048, 1024]⟩
abbrev S8x1024 : Shape := ⟨2, ![8, 1024]⟩
abbrev S64x1024 : Shape := ⟨2, ![64, 1024]⟩
abbrev S64 : Shape := ⟨1, ![64]⟩
abbrev S192x64 : Shape := ⟨2, ![192, 64]⟩
abbrev S192 : Shape := ⟨1, ![192]⟩
abbrev S8x64 : Shape := ⟨2, ![8, 64]⟩
abbrev S192x1024 : Shape := ⟨2, ![192, 1024]⟩
abbrev S1024x192 : Shape := ⟨2, ![1024, 192]⟩
abbrev S_ : Shape := ⟨0, ![]⟩
abbrev S1024x64 : Shape := ⟨2, ![1024, 64]⟩
abbrev S1024x384 : Shape := ⟨2, ![1024, 384]⟩
abbrev S1024x8 : Shape := ⟨2, ![1024, 8]⟩
abbrev S1024x392 : Shape := ⟨2, ![1024, 392]⟩
abbrev S1x192 : Shape := ⟨2, ![1, 192]⟩
abbrev S1x64 : Shape := ⟨2, ![1, 64]⟩
abbrev S1x384 : Shape := ⟨2, ![1, 384]⟩
abbrev S64x192 : Shape := ⟨2, ![64, 192]⟩
abbrev S64x64 : Shape := ⟨2, ![64, 64]⟩
abbrev S64x384 : Shape := ⟨2, ![64, 384]⟩
abbrev S16x2048x8x64 : Shape := ⟨4, ![16, 2048, 8, 64]⟩
abbrev S16x64x1024 : Shape := ⟨3, ![16, 64, 1024]⟩
abbrev S16x64x8x64 : Shape := ⟨4, ![16, 64, 8, 64]⟩
abbrev S128x64 : Shape := ⟨2, ![128, 64]⟩
abbrev S64x128x384 : Shape := ⟨3, ![64, 128, 384]⟩
abbrev S1024x1024 : Shape := ⟨2, ![1024, 1024]⟩
abbrev S1024 : Shape := ⟨1, ![1024]⟩
abbrev S1024x1 : Shape := ⟨2, ![1024, 1]⟩
abbrev S16x64x8 : Shape := ⟨3, ![16, 64, 8]⟩
abbrev S16x64x64 : Shape := ⟨3, ![16, 64, 64]⟩
abbrev S16x64x8x1 : Shape := ⟨4, ![16, 64, 8, 1]⟩
abbrev S16x64x1x64 : Shape := ⟨4, ![16, 64, 1, 64]⟩
abbrev S1x1x1x64 : Shape := ⟨4, ![1, 1, 1, 64]⟩
abbrev S64x16x8x64 : Shape := ⟨4, ![64, 16, 8, 64]⟩
abbrev S64x128x64 : Shape := ⟨3, ![64, 128, 64]⟩
abbrev S1x128x384 : Shape := ⟨3, ![1, 128, 384]⟩
abbrev S128x384 : Shape := ⟨2, ![128, 384]⟩
abbrev S16x1x8x64 : Shape := ⟨4, ![16, 1, 8, 64]⟩
abbrev S16x2048x512 : Shape := ⟨3, ![16, 2048, 512]⟩

abbrev nBuf : Space → Nat
  | .hbm => 56
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S8x1024, .f32⟩
  | .hbm, ⟨2, _⟩ => ⟨S64x1024, .f32⟩
  | .hbm, ⟨3, _⟩ => ⟨S64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S8x64, .f32⟩
  | .hbm, ⟨9, _⟩ => ⟨S192x1024, .f32⟩
  | .hbm, ⟨10, _⟩ => ⟨S1024x192, .f32⟩
  | .hbm, ⟨11, _⟩ => ⟨S_, .f32⟩
  | .hbm, ⟨12, _⟩ => ⟨S1024x64, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S1024x384, .f32⟩
  | .hbm, ⟨17, _⟩ => ⟨S1024x8, .f32⟩
  | .hbm, ⟨18, _⟩ => ⟨S_, .f32⟩
  | .hbm, ⟨19, _⟩ => ⟨S_, .f32⟩
  | .hbm, ⟨20, _⟩ => ⟨S1024x8, .f32⟩
  | .hbm, ⟨21, _⟩ => ⟨S1024x8, .f32⟩
  | .hbm, ⟨22, _⟩ => ⟨S1024x392, .f32⟩
  | .hbm, ⟨23, _⟩ => ⟨S1024x392, .bf16⟩
  | .hbm, ⟨24, _⟩ => ⟨S192, .f32⟩
  | .hbm, ⟨25, _⟩ => ⟨S1x192, .f32⟩
  | .hbm, ⟨26, _⟩ => ⟨S_, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x64, .f32⟩
  | .hbm, ⟨31, _⟩ => ⟨S1x384, .f32⟩
  | .hbm, ⟨32, _⟩ => ⟨S1x192, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x384, .f32⟩
  | .hbm, ⟨39, _⟩ => ⟨S1x192, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x384, .f32⟩
  | .hbm, ⟨46, _⟩ => ⟨S64x192, .f32⟩
  | .hbm, ⟨47, _⟩ => ⟨S_, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x384, .f32⟩
  | .hbm, ⟨53, _⟩ => ⟨S64x384, .bf16⟩
  | .hbm, ⟨54, _⟩ => ⟨S16x2048x8x64, .f32⟩
  | .hbm, ⟨55, _⟩ => ⟨S16x2048x512, .f32⟩
  | .local _ .vmem, ⟨0, _⟩ => ⟨S16x64x1024, .f32⟩
  | .local _ .vmem, ⟨1, _⟩ => ⟨S16x64x1024, .f32⟩
  | .local _ .vmem, ⟨2, _⟩ => ⟨S1024x392, .bf16⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S64x384, .bf16⟩
  | .local _ .vmem, ⟨7, _⟩ => ⟨S8x64, .f32⟩
  | .local _ .vmem, ⟨8, _⟩ => ⟨S16x64x8x64, .f32⟩
  | .local _ .vmem, ⟨9, _⟩ => ⟨S16x64x8x64, .f32⟩
  | .local _ .vmem, ⟨10, _⟩ => ⟨S128x64, .f32⟩
  | .local _ .vmem, ⟨11, _⟩ => ⟨S64x128x384, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_28 : BitVec 32 := 0#32
  let c64_i32 : BitVec 32 := 64#32
  let v84 : BitVec 32 := Scalar.addi c0_i32_28 c64_i32
  let c1_i32 : BitVec 32 := 1#32
  ⟨c0_i32_28, v84, c1_i32⟩
def k0_off1 (k0_t1 : Fin k0_t1_loop.trips) : Fin 3 → Nat :=
  let c0_i32_28 : BitVec 32 := 0#32
  let c1_i32 : BitVec 32 := 1#32
  let arg11 : BitVec 32 := Scf.iv c0_i32_28 c1_i32 k0_t1
  let v89 : Index := Scalar.indexCast arg11
  let c0_32 : Index := 0#32
  let c0_33 : Index := 0#32
  ![v89.toNat, 0, 0]
def k0_off2 (k0_t1 : Fin k0_t1_loop.trips) : Fin 4 → Nat :=
  let c0_39 : Index := 0#32
  let c0_i32_28 : BitVec 32 := 0#32
  let c1_i32 : BitVec 32 := 1#32
  let arg11 : BitVec 32 := Scf.iv c0_i32_28 c1_i32 k0_t1
  let v114 : Index := Scalar.indexCast arg11
  let c0_40 : Index := 0#32
  let c0_41 : Index := 0#32
  ![0, v114.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S16x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x392 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x64x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x2048x1024 : Shape := ⟨3, ![16, 2048, 1024]⟩
abbrev S8x1024 : Shape := ⟨2, ![8, 1024]⟩
abbrev S64x1024 : Shape := ⟨2, ![64, 1024]⟩
abbrev S64 : Shape := ⟨1, ![64]⟩
abbrev S192x64 : Shape := ⟨2, ![192, 64]⟩
abbrev S192 : Shape := ⟨1, ![192]⟩
abbrev S8x64 : Shape := ⟨2, ![8, 64]⟩
abbrev S16x2048x64 : Shape := ⟨3, ![16, 2048, 64]⟩
abbrev S1x1x64 : Shape := ⟨3, ![1, 1, 64]⟩
abbrev S16x2048x8 : Shape := ⟨3, ![16, 2048, 8]⟩
abbrev S_ : Shape := ⟨0, ![]⟩
abbrev S16x2048 : Shape := ⟨2, ![16, 2048]⟩
abbrev S16x2048x1 : Shape := ⟨3, ![16, 2048, 1]⟩
abbrev S1x8x64 : Shape := ⟨3, ![1, 8, 64]⟩
abbrev S16x8x64 : Shape := ⟨3, ![16, 8, 64]⟩
abbrev S2048x16x8 : Shape := ⟨3, ![2048, 16, 8]⟩
abbrev S2048x16x64 : Shape := ⟨3, ![2048, 16, 64]⟩
abbrev S2048x16x8x64 : Shape := ⟨4, ![2048, 16, 8, 64]⟩
abbrev S1x16x8 : Shape := ⟨3, ![1, 16, 8]⟩
abbrev S16x8 : Shape := ⟨2, ![16, 8]⟩
abbrev S1x16x64 : Shape := ⟨3, ![1, 16, 64]⟩
abbrev S16x64 : Shape := ⟨2, ![16, 64]⟩
abbrev S16x8x1 : Shape := ⟨3, ![16, 8, 1]⟩
abbrev S16x1x64 : Shape := ⟨3, ![16, 1, 64]⟩
abbrev S16x8x192 : Shape := ⟨3, ![16, 8, 192]⟩
abbrev S1x1x192 : Shape := ⟨3, ![1, 1, 192]⟩
abbrev S1x16x8x64 : Shape := ⟨4, ![1, 16, 8, 64]⟩
abbrev S16x2048x8x64 : Shape := ⟨4, ![16, 2048, 8, 64]⟩
abbrev S16x2048x512 : Shape := ⟨3, ![16, 2048, 512]⟩

abbrev nBuf : Space → Nat
  | .hbm => 113
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S8x1024, .f32⟩
  | .hbm, ⟨2, _⟩ => ⟨S64x1024, .f32⟩
  | .hbm, ⟨3, _⟩ => ⟨S64, .f32⟩
  | .hbm, ⟨4, _⟩ => ⟨S192x64, .f32⟩
  | .hbm, ⟨5, _⟩ => ⟨S192x64, .f32⟩
  | .hbm, ⟨6, _⟩ => ⟨S192, .f32⟩
  | .hbm, ⟨7, _⟩ => ⟨S192, .f32⟩
  | .hbm, ⟨8, _⟩ => ⟨S8x64, .f32⟩
  | .hbm, ⟨9, _⟩ => ⟨S16x2048x64, .f32⟩
  | .hbm, ⟨10, _⟩ => ⟨S1x1x64, .f32⟩
  | .hbm, ⟨11, _⟩ => ⟨S16x2048x64, .f32⟩
  | .hbm, ⟨12, _⟩ => ⟨S16x2048x64, .f32⟩
  | .hbm, ⟨13, _⟩ => ⟨S16x2048x8, .f32⟩
  | .hbm, ⟨14, _⟩ => ⟨S_, .f32⟩
  | .hbm, ⟨15, _⟩ => ⟨S_, .f32⟩
  | .hbm, ⟨16, _⟩ => ⟨S16x2048x8, .f32⟩
  | .hbm, ⟨17, _⟩ => ⟨S16x2048x8, .f32⟩
  | .hbm, ⟨18, _⟩ => ⟨S_, .f32⟩
  | .hbm, ⟨19, _⟩ => ⟨S16x2048, .f32⟩
  | .hbm, ⟨20, _⟩ => ⟨S_, .f32⟩
  | .hbm, ⟨21, _⟩ => ⟨S16x2048, .f32⟩
  | .hbm, ⟨22, _⟩ => ⟨S16x2048, .f32⟩
  | .hbm, ⟨23, _⟩ => ⟨S16x2048x1, .f32⟩
  | .hbm, ⟨24, _⟩ => ⟨S16x2048x8, .f32⟩
  | .hbm, ⟨25, _⟩ => ⟨S16x2048x8, .f32⟩
  | .hbm, ⟨26, _⟩ => ⟨S16x2048x8, .f32⟩
  | .hbm, ⟨27, _⟩ => ⟨S_, .f32⟩
  | .hbm, ⟨28, _⟩ => ⟨S16x2048, .f32⟩
  | .hbm, ⟨29, _⟩ => ⟨S16x2048x1, .f32⟩
  | .hbm, ⟨30, _⟩ => ⟨S16x2048x8, .f32⟩
  | .hbm, ⟨31, _⟩ => ⟨S16x2048x8, .f32⟩
  | .hbm, ⟨32, _⟩ => ⟨S1x8x64, .f32⟩
  | .hbm, ⟨33, _⟩ => ⟨S16x8x64, .f32⟩
  | .hbm, ⟨34, _⟩ => ⟨S2048x16x8, .f32⟩
  | .hbm, ⟨35, _⟩ => ⟨S2048x16x64, .f32⟩
  | .hbm, ⟨36, _⟩ => ⟨S_, .f32⟩
  | .hbm, ⟨37, _⟩ => ⟨S2048x16x8x64, .f32⟩
  | .hbm, ⟨38, _⟩ => ⟨S_, .i32⟩
  | .hbm, ⟨39, _⟩ => ⟨S2048x16x8, .f32⟩
  | .hbm, ⟨40, _⟩ => ⟨S2048x16x64, .f32⟩
  | .hbm, ⟨41, _⟩ => ⟨S192x64, .f32⟩
  | .hbm, ⟨42, _⟩ => ⟨S192, .f32⟩
  | .hbm, ⟨43, _⟩ => ⟨S192x64, .f32⟩
  | .hbm, ⟨44, _⟩ => ⟨S192, .f32⟩
  | .hbm, ⟨45, _⟩ => ⟨S_, .i32⟩
  | .hbm, ⟨46, _⟩ => ⟨S16x8x64, .f32⟩
  | .hbm, ⟨47, _⟩ => ⟨S2048x16x8x64, .f32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S1x16x8, .f32⟩
  | .hbm, ⟨53, _⟩ => ⟨S16x8, .f32⟩
  | .hbm, ⟨54, _⟩ => ⟨S_, .i32⟩
  | .hbm, ⟨55, _⟩ => ⟨S_, .i32⟩
  | .hbm, ⟨56, _⟩ => ⟨S1x16x64, .f32⟩
  | .hbm, ⟨57, _⟩ => ⟨S16x64, .f32⟩
  | .hbm, ⟨58, _⟩ => ⟨S16x8x1, .f32⟩
  | .hbm, ⟨59, _⟩ => ⟨S16x1x64, .f32⟩
  | .hbm, ⟨60, _⟩ => ⟨S16x8x64, .f32⟩
  | .hbm, ⟨61, _⟩ => ⟨S16x8x64, .f32⟩
  | .hbm, ⟨62, _⟩ => ⟨S16x8x64, .f32⟩
  | .hbm, ⟨63, _⟩ => ⟨S16x8x192, .f32⟩
  | .hbm, ⟨64, _⟩ => ⟨S1x1x192, .f32⟩
  | .hbm, ⟨65, _⟩ => ⟨S16x8x192, .f32⟩
  | .hbm, ⟨66, _⟩ => ⟨S16x8x192, .f32⟩
  | .hbm, ⟨67, _⟩ => ⟨S16x8x192, .f32⟩
  | .hbm, ⟨68, _⟩ => ⟨S1x1x192, .f32⟩
  | .hbm, ⟨69, _⟩ => ⟨S16x8x192, .f32⟩
  | .hbm, ⟨70, _⟩ => ⟨S16x8x192, .f32⟩
  | .hbm, ⟨71, _⟩ => ⟨S16x8x64, .f32⟩
  | .hbm, ⟨72, _⟩ => ⟨S16x8x64, .f32⟩
  | .hbm, ⟨73, _⟩ => ⟨S16x8x64, .f32⟩
  | .hbm, ⟨74, _⟩ => ⟨S16x8x64, .f32⟩
  | .hbm, ⟨75, _⟩ => ⟨S16x8x64, .f32⟩
  | .hbm, ⟨76, _⟩ => ⟨S_, .f32⟩
  | .hbm, ⟨77, _⟩ => ⟨S16x8x64, .f32⟩
  | .hbm, ⟨78, _⟩ => ⟨S16x8x64, .f32⟩
  | .hbm, ⟨79, _⟩ => ⟨S_, .f32⟩
  | .hbm, ⟨80, _⟩ => ⟨S16x8x64, .f32⟩
  | .hbm, ⟨81, _⟩ => ⟨S16x8x64, .f32⟩
  | .hbm, ⟨82, _⟩ => ⟨S16x8x64, .f32⟩
  | .hbm, ⟨83, _⟩ => ⟨S16x8x64, .f32⟩
  | .hbm, ⟨84, _⟩ => ⟨S16x8x64, .f32⟩
  | .hbm, ⟨85, _⟩ => ⟨S16x8x64, .f32⟩
  | .hbm, ⟨86, _⟩ => ⟨S16x8x64, .f32⟩
  | .hbm, ⟨87, _⟩ => ⟨S_, .f32⟩
  | .hbm, ⟨88, _⟩ => ⟨S16x8x64, .f32⟩
  | .hbm, ⟨89, _⟩ => ⟨S16x8x64, .f32⟩
  | .hbm, ⟨90, _⟩ => ⟨S_, .f32⟩
  | .hbm, ⟨91, _⟩ => ⟨S16x8x64, .f32⟩
  | .hbm, ⟨92, _⟩ => ⟨S16x8x64, .f32⟩
  | .hbm, ⟨93, _⟩ => ⟨S16x8x64, .f32⟩
  | .hbm, ⟨94, _⟩ => ⟨S16x8x64, .f32⟩
  | .hbm, ⟨95, _⟩ => ⟨S16x8x64, .f32⟩
  | .hbm, ⟨96, _⟩ => ⟨S16x8x64, .f32⟩
  | .hbm, ⟨97, _⟩ => ⟨S16x8x64, .f32⟩
  | .hbm, ⟨98, _⟩ => ⟨S_, .f32⟩
  | .hbm, ⟨99, _⟩ => ⟨S16x8x64, .f32⟩
  | .hbm, ⟨100, _⟩ => ⟨S16x8x64, .f32⟩
  | .hbm, ⟨101, _⟩ => ⟨S16x8x64, .f32⟩
  | .hbm, ⟨102, _⟩ => ⟨S16x8x64, .f32⟩
  | .hbm, ⟨103, _⟩ => ⟨S16x8x64, .f32⟩
  | .hbm, ⟨104, _⟩ => ⟨S1x16x8x64, .f32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S2048x16x8x64, .f32⟩
  | .hbm, ⟨109, _⟩ => ⟨S_, .i32⟩
  | .hbm, ⟨110, _⟩ => ⟨S_, .i32⟩
  | .hbm, ⟨111, _⟩ => ⟨S16x2048x8x64, .f32⟩
  | .hbm, ⟨112, _⟩ => ⟨S16x2048x512, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_c : Ref sig .tc := ⟨.hbm, 38, rfl⟩
abbrev main_v24_0 : Ref sig .tc := ⟨.hbm, 39, rfl⟩
abbrev main_v24_1 : Ref sig .tc := ⟨.hbm, 40, rfl⟩
abbrev main_v24_2 : Ref sig .tc := ⟨.hbm, 41, rfl⟩
abbrev main_v24_3 : Ref sig .tc := ⟨.hbm, 42, rfl⟩
abbrev main_v24_4 : Ref sig .tc := ⟨.hbm, 43, rfl⟩
abbrev main_v24_5 : Ref sig .tc := ⟨.hbm, 44, rfl⟩
abbrev main_v24_6 : Ref sig .tc := ⟨.hbm, 45, rfl⟩
abbrev main_v24_7 : Ref sig .tc := ⟨.hbm, 46, rfl⟩
abbrev main_v24_8 : Ref sig .tc := ⟨.hbm, 47, rfl⟩
abbrev main_while0c_c_12 : Ref sig .tc := ⟨.hbm, 48, rfl⟩
abbrev main_while0c_v27 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_v0 : Ref sig .tc := ⟨.hbm, 52, rfl⟩
abbrev main_while0b_v27 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_v0 : Ref sig .tc := ⟨.hbm, 56, rfl⟩
abbrev main_while0b_v28 : Ref sig .tc := ⟨.hbm, 57, rfl⟩
abbrev main_while0b_v29 : Ref sig .tc := ⟨.hbm, 58, rfl⟩
abbrev main_while0b_v30 : Ref sig .tc := ⟨.hbm, 59, rfl⟩
abbrev main_while0b_v31 : Ref sig .tc := ⟨.hbm, 60, rfl⟩
abbrev main_while0b_v32 : Ref sig .tc := ⟨.hbm, 61, rfl⟩
abbrev main_while0b_v33 : Ref sig .tc := ⟨.hbm, 62, rfl⟩
abbrev main_while0b_v34 : Ref sig .tc := ⟨.hbm, 63, rfl⟩
abbrev main_while0b_v35 : Ref sig .tc := ⟨.hbm, 64, rfl⟩
abbrev main_while0b_v36 : Ref sig .tc := ⟨.hbm, 65, rfl⟩
abbrev main_while0b_v37 : Ref sig .tc := ⟨.hbm, 66, rfl⟩
abbrev main_while0b_v38 : Ref sig .tc := ⟨.hbm, 67, rfl⟩
abbrev main_while0b_v39 : Ref sig .tc := ⟨.hbm, 68, rfl⟩
abbrev main_while0b_v40 : Ref sig .tc := ⟨.hbm, 69, rfl⟩
abbrev main_while0b_v41 : Ref sig .tc := ⟨.hbm, 70, rfl⟩
abbrev main_while0b_v42 : Ref sig .tc := ⟨.hbm, 71, rfl⟩
abbrev main_while0b_v43 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_cst_12 : Ref sig .tc := ⟨.hbm, 76, rfl⟩
abbrev main_while0b_v47 : Ref sig .tc := ⟨.hbm, 77, rfl⟩
abbrev main_while0b_v48 : Ref sig .tc := ⟨.hbm, 78, rfl⟩
abbrev main_while0b_cst_13 : Ref sig .tc := ⟨.hbm, 79, rfl⟩
abbrev main_while0b_v49 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_cst_14 : Ref sig .tc := ⟨.hbm, 87, rfl⟩
abbrev main_while0b_v56 : Ref sig .tc := ⟨.hbm, 88, rfl⟩
abbrev main_while0b_v57 : Ref sig .tc := ⟨.hbm, 89, rfl⟩
abbrev main_while0b_cst_15 : Ref sig .tc := ⟨.hbm, 90, rfl⟩
abbrev main_while0b_v58 : Ref sig .tc := ⟨.hbm, 91, rfl⟩
abbrev main_while0b_v59 : Ref sig .tc := ⟨.hbm, 92, rfl⟩
abbrev main_while0b_v60 : Ref sig .tc := ⟨.hbm, 93, rfl⟩
abbrev main_while0b_v61 : Ref sig .tc := ⟨.hbm, 94, rfl⟩
abbrev main_while0b_v62 : Ref sig .tc := ⟨.hbm, 95, rfl⟩
abbrev main_while0b_v63 : Ref sig .tc := ⟨.hbm, 96, rfl⟩
abbrev main_while0b_v64 : Ref sig .tc := ⟨.hbm, 97, rfl⟩
abbrev main_while0b_cst_16 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_call2_v0 : Ref sig .tc := ⟨.hbm, 104, rfl⟩
abbrev main_while0b_call2_c : Ref sig .tc := ⟨.hbm, 105, rfl⟩
abbrev main_while0b_call2_c_0 : Ref sig .tc := ⟨.hbm, 106, rfl⟩
abbrev main_while0b_call2_c_1 : Ref sig .tc := ⟨.hbm, 107, rfl⟩
abbrev main_while0b_v70 : Ref sig .tc := ⟨.hbm, 108, rfl⟩
abbrev main_while0b_c_17 : Ref sig .tc := ⟨.hbm, 109, rfl⟩
abbrev main_while0b_v71 : Ref sig .tc := ⟨.hbm, 110, rfl⟩
abbrev main_v25 : Ref sig .tc := ⟨.hbm, 111, rfl⟩
abbrev main_v26 : Ref sig .tc := ⟨.hbm, 112, rfl⟩

abbrev nD : Nat := 1
abbrev τ : Topo := Topo.v7x

variable {F : FTy → Type} [FloatOps F]

abbrev main_while0_count : Scf.Loop 32 := ⟨0#32, 2048#32, 1#32⟩
-- ==== Proof.KRun.lean ====
/- What one grid point's body does, at any float values: the run of the whole body with its stores listed. -/
module

public import proofs.«01_k».proof.Proof.Gen.KernelIdeal.Frame
public import proofs.«01_k».proof.Proof.Gen.KernelIdeal.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's `scf.if`: this is the first point. -/
abbrev first (i : grid0.Coords) : Prop := (Scalar.cmpi .ne (Scalar.extui (Scalar.cmpi .eq (BitVec.ofNat 32 (i 0).val) 0#32)) 0#32) = 1#1

set_option maxHeartbeats 4000000 in
/-- The body at a point that is not the first, the state scratch holding `xs`: what its stores leave, as lists of pieces. -/
noncomputable def runNext (c : Dev nD) (i : grid0.Coords)
    (arg1 : Memref sig .tc .vmem S16x64x1024 .f32) (harg1 : arg1.IsWhole) (arg2 : Memref sig .tc .vmem S1024x392 .bf16) (harg2 : arg2.IsWhole)
    (arg3 : Memref sig .tc .vmem S1x384 .f32) (harg3 : arg3.IsWhole) (arg4 : Memref sig .tc .vmem S1x384 .f32) (harg4 : arg4.IsWhole)
    (arg5 : Memref sig .tc .vmem S1x384 .f32) (harg5 : arg5.IsWhole) (arg6 : Memref sig .tc .vmem S64x384 .bf16) (harg6 : arg6.IsWhole)
    (arg7 : Memref sig .tc .vmem S8x64 .f32) (harg7 : arg7.IsWhole) (arg8 : Memref sig .tc .vmem S16x64x8x64 .f32) (harg8 : arg8.IsWhole)
    (arg9 : Memref sig .tc .vmem S128x64 .f32) (harg9 : arg9.IsWhole) (arg10 : Memref sig .tc .vmem S64x128x384 .f32) (harg10 : arg10.IsWhole)
    (hc : ¬ first i) (x1 : Vec F S16x64x1024 .f32) (x2 : Vec F S1024x392 .bf16) (x3 x4 x5 : Vec F S1x384 .f32) (x6 : Vec F S64x384 .bf16)
    (x7 : Vec F S8x64 .f32) (xs : Vec F S128x64 .f32) (f10 : BufTy.Contents (Elt F) arg10.view.ty) :
    Σ' (L8 : List (View.Piece (Elt F) S16x64x8x64 .f32)) (L10 : List (View.Piece (Elt F) S64x128x384 .f32)), { L9 : List (View.Piece (Elt F) S128x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ (∃ d, owns (c : Thread nD τ) arg8 fullShare d) ∗ owns (c : Thread nD τ) arg9 fullShare xs
            ∗ (arg10.view.loc (c : Thread nD τ) ↦[arg10.view.set]{fullShare} f10)
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7
            ∗ (∃ f, arg8.view.loc (c : Thread nD τ) ↦[arg8.view.set]{fullShare} arg8.view.writes (Elt F) f L8)
            ∗ (∃ f, arg9.view.loc (c : Thread nD τ) ↦[arg9.view.set]{fullShare} arg9.view.writes (Elt F) f L9)
            ∗ (arg10.view.loc (c : Thread nD τ) ↦[arg10.view.set]{fullShare} arg10.view.writes (Elt F) f10 L10)) -∗ K ⟨⟩))
          ⊢ wp frame (wpE (defs₀ (F := F)) Variants.none c none) E (cc0__entity_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__entity_kernel_eq_skeleton]; unfold cc0__entity_kernel_skel
    simp only [k0_part1_eq_skeleton, k0_part2_eq_skeleton]
    unfold k0_part1_skel k0_part2_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, H10, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7; obtain rfl := harg9.eq_unread hf9
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexact H10

set_option maxHeartbeats 800000 in
/-- The body at a point that is the first, whatever the state scratch holds: what its stores leave, as lists of pieces. -/
noncomputable def runFirst (c : Dev nD) (i : grid0.Coords)
    (arg1 : Memref sig .tc .vmem S16x64x1024 .f32) (harg1 : arg1.IsWhole) (arg2 : Memref sig .tc .vmem S1024x392 .bf16) (harg2 : arg2.IsWhole)
    (arg3 : Memref sig .tc .vmem S1x384 .f32) (harg3 : arg3.IsWhole) (arg4 : Memref sig .tc .vmem S1x384 .f32) (harg4 : arg4.IsWhole)
    (arg5 : Memref sig .tc .vmem S1x384 .f32) (harg5 : arg5.IsWhole) (arg6 : Memref sig .tc .vmem S64x384 .bf16) (harg6 : arg6.IsWhole)
    (arg7 : Memref sig .tc .vmem S8x64 .f32) (harg7 : arg7.IsWhole) (arg8 : Memref sig .tc .vmem S16x64x8x64 .f32) (harg8 : arg8.IsWhole)
    (arg9 : Memref sig .tc .vmem S128x64 .f32) (harg9 : arg9.IsWhole) (arg10 : Memref sig .tc .vmem S64x128x384 .f32) (harg10 : arg10.IsWhole)
    (hc : first i) (x1 : Vec F S16x64x1024 .f32) (x2 : Vec F S1024x392 .bf16) (x3 x4 x5 : Vec F S1x384 .f32) (x6 : Vec F S64x384 .bf16)
    (x7 : Vec F S8x64 .f32) (f10 : BufTy.Contents (Elt F) arg10.view.ty) :
    Σ' (L8 : List (View.Piece (Elt F) S16x64x8x64 .f32)) (L10 : List (View.Piece (Elt F) S64x128x384 .f32)), { L9 : List (View.Piece (Elt F) S128x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7 ∗ (∃ d, owns (c : Thread nD τ) arg8 fullShare d) ∗ (∃ d, owns (c : Thread nD τ) arg9 fullShare d)
            ∗ (arg10.view.loc (c : Thread nD τ) ↦[arg10.view.set]{fullShare} f10)
            ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare x7
            ∗ (∃ f, arg8.view.loc (c : Thread nD τ) ↦[arg8.view.set]{fullShare} arg8.view.writes (Elt F) f L8)
            ∗ (∃ f, arg9.view.loc (c : Thread nD τ) ↦[arg9.view.set]{fullShare} arg9.view.writes (Elt F) f L9)
            ∗ (arg10.view.loc (c : Thread nD τ) ↦[arg10.view.set]{fullShare} arg10.view.writes (Elt F) f10 L10)) -∗ K ⟨⟩))
          ⊢ wp frame (wpE (defs₀ (F := F)) Variants.none c none) E (cc0__entity_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__entity_kernel_eq_skeleton]; unfold cc0__entity_kernel_skel
    simp only [k0_part1_eq_skeleton, k0_part2_eq_skeleton]
    unfold k0_part1_skel k0_part2_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, H10, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    obtain rfl := harg7.eq_unread hf7
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; iexact H8
    isplitl [H9]
    · iexists _; iexact H9
    iexact H10

end Cert.KernelIdeal.Hand

end
-- ==== Proof.KVal.lean ====
/- The values one grid point computes, at any float values: the gate block the point fills, the recurrence its 64 steps run, the output block they write; and the loop's listed stores read back as these. -/
module

public import proofs.«01_k».proof.Proof.KRun
public import Idealize.ShloMosaic.Lib.Pointwise
public import Idealize.ShloMosaic.Lib.VecWindow
public import Idealize.ShloMosaic.Lib.LayoutPointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The values -/

/-- The 64 columns of gate `g` in a padded bias row. -/
def gateRow (g : Fin 3) (x : Vec F S1x384 .f32) : Vec F S1x64 .f32 := fun j =>
  x (ix2 (0 : Fin 1) (⟨128 * g.val + (j 1).val, by have := g.isLt; have h : (j 1).val < 64 := (j 1).isLt; omega⟩ : Fin 384))

/-- The gate inputs of a block of 64 steps, from the block of `h_seq` and the host-made operands; a pad column repeats the gate column 64 before it. -/
def gates (x1 : Vec F S16x64x1024 .f32) (x2 : Vec F S1024x392 .bf16) (x3 x4 : Vec F S1x384 .f32) : Vec F S64x128x384 .f32 := fun j =>
  if (j 2).val < 128 then k0_pay6 x1 x2 (gateRow 0 x3) (gateRow 0 x4) (ix3 (j 0 : Fin 64) (j 1 : Fin 128) (⟨(j 2).val % 64, Nat.mod_lt _ (by decide)⟩ : Fin 64))
  else if (j 2).val < 256 then k0_pay9 (k0_pay5 x1 x2) (k0_pay7 x1 x2) (k0_pay8 (gateRow 1 x3)) (gateRow 1 x4) (ix3 (j 0 : Fin 64) (j 1 : Fin 128) (⟨(j 2).val % 64, Nat.mod_lt _ (by decide)⟩ : Fin 64))
  else k0_pay10 (k0_pay4 x1 x2) (k0_pay5 x1 x2) (gateRow 2 x3) (gateRow 2 x4) (ix3 (j 0 : Fin 64) (j 1 : Fin 128) (⟨(j 2).val % 64, Nat.mod_lt _ (by decide)⟩ : Fin 64))

/-- Step `k`'s slab of a gate block. -/
def slab (g : Vec F S64x128x384 .f32) (k : ℕ) : Vec F S1x128x384 .f32 := fun j =>
  g (ix3 (⟨k % 64, Nat.mod_lt _ (by decide)⟩ : Fin 64) (j 1 : Fin 128) (j 2 : Fin 384))

/-- The state after `k` steps over a gate block, from `init`. -/
def steps (g : Vec F S64x128x384 .f32) (x5 : Vec F S1x384 .f32) (x6 : Vec F S64x384 .bf16) (init : Vec F S128x64 .f32) : ℕ → Vec F S128x64 .f32
  | 0 => init
  | k + 1 => k0_pay1 (steps g x5 x6 init k) (slab g k) x6 x5

/-- The output block of a point: at step `k` of the block, the state after `k + 1` steps, split into batch and entity. -/
def outBlock (g : Vec F S64x128x384 .f32) (x5 : Vec F S1x384 .f32) (x6 : Vec F S64x384 .bf16) (init : Vec F S128x64 .f32) : Vec F S16x64x8x64 .f32 := fun y =>
  steps g x5 x6 init ((y 1).val + 1) (ix2 (⟨(y 0).val * 8 + (y 2).val, by have h0 : (y 0).val < 16 := (y 0).isLt; have h2 : (y 2).val < 8 := (y 2).isLt; omega⟩ : Fin 128) (y 3 : Fin 64))

/-! ## A step reads a slab at the gate columns alone -/

/-- A step's new state reads only the 64 leading columns of each gate's 128. -/
theorem pay1_congr (a : Vec F S128x64 .f32) (w : Vec F S64x384 .bf16) (b : Vec F S1x384 .f32) (s s' : Vec F S1x128x384 .f32)
    (h : ∀ j, (j 2).val % 128 < 64 → s j = s' j) : k0_pay1 a s w b = k0_pay1 a s' w b := by
  have key : ∀ (off : Fin 2 → ℕ) (hs : S128x384.Slices off S128x64), off 0 = 0 → off 1 % 128 = 0 →
      extractStridedSlice S128x64 off (shapeCast S128x384 s shapeCasts_S1x128x384_S128x384) hs
        = extractStridedSlice S128x64 off (shapeCast S128x384 s' shapeCasts_S1x128x384_S128x384) hs := by
    intro off hs h0 h1
    funext j
    idx_vars j
    have hb : off 1 + 64 ≤ 384 := hs.2 1
    have e : ∀ u : Vec F S1x128x384 .f32, extractStridedSlice S128x64 off (shapeCast S128x384 u shapeCasts_S1x128x384_S128x384) hs (ix2 j0 j1)
        = u (ix3 (0 : Fin 1) j0 (⟨off 1 + j1.val, by omega⟩ : Fin 384)) := by
      intro u
      rw [extractStridedSlice_apply off _ hs _ (ix2 j0 (⟨off 1 + j1.val, by omega⟩ : Fin 384)) (fun a => by
        fin_cases a
        · show j0.val = off 0 + j0.val; omega
        · show off 1 + j1.val = off 1 + j1.val; rfl)]
      pointwise
    rw [e, e]
    exact h _ (by show (off 1 + j1.val) % 128 < 64; omega)
  unfold k0_pay1
  simp only [extractStridedSlice_addf, key ![0, 0] slices_S128x384_o0_0_S128x64 rfl rfl, key ![0, 128] slices_S128x384_o0_128_S128x64 rfl rfl,
    key ![0, 256] slices_S128x384_o0_256_S128x64 rfl rfl]

/-! ## The gate block as the scratch's stores leave it -/

/-- What the gate scratch reads at a gate column after a point's three stores, whatever it held before. -/
theorem read_gates {sig' : RefSig} {κ : Kind} {sp : Space} (v : View sig' κ sp S64x128x384 .f32) (f : v.ty.Contents (Elt F))
    (x1 : Vec F S16x64x1024 .f32) (x2 : Vec F S1024x392 .bf16) (x3 x4 : Vec F S1x384 .f32) (y : S64x128x384.Idx) (hy : (y 2).val % 128 < 64) :
    v.read (Elt F) (v.writes (Elt F) f
      [⟨Rect.unit ![0, 0, 256] ![64, 128, 64] inb_S64x128x384_S64x128x64_0_0_256, k0_pay10 (k0_pay4 x1 x2) (k0_pay5 x1 x2) (gateRow 2 x3) (gateRow 2 x4)⟩,
       ⟨Rect.unit ![0, 0, 128] ![64, 128, 64] inb_S64x128x384_S64x128x64_0_0_128, k0_pay9 (k0_pay5 x1 x2) (k0_pay7 x1 x2) (k0_pay8 (gateRow 1 x3)) (gateRow 1 x4)⟩,
       ⟨Rect.unit ![0, 0, 0] ![64, 128, 64] inb_S64x128x384_S64x128x64_0_0_0, k0_pay6 x1 x2 (gateRow 0 x3) (gateRow 0 x4)⟩]) y
      = gates x1 x2 x3 x4 y := by
  have h2 : (y 2).val < 384 := (y 2).isLt
  have hx : ∀ o : ℕ, o ≤ (y 2).val → (y 2).val < o + 64 → o % 64 = 0 → ∀ a : Fin 3, (y a).val = (![0, 0, o] : Fin 3 → ℕ) a
      + ((ix3 (y 0 : Fin 64) (y 1 : Fin 128) (⟨(y 2).val % 64, Nat.mod_lt _ (by decide)⟩ : Fin 64) : S64x128x64.Idx) a).val := by
    intro o h1 h3 h4 a
    fin_cases a
    · show (y 0).val = 0 + (y 0).val; omega
    · show (y 1).val = 0 + (y 1).val; omega
    · show (y 2).val = o + (y 2).val % 64; omega
  unfold gates
  by_cases ha : (y 2).val < 128
  · rw [if_pos ha, View.read_writes_cons_unit_of_not_mem v f _ _ _ y rfl 2 (by left; show (y 2).val < 256; omega),
      View.read_writes_cons_unit_of_not_mem v f _ _ _ y rfl 2 (by left; show (y 2).val < 128; omega)]
    exact View.read_writes_cons_unit_of_mem v f _ _ _ y _ rfl (hx 0 (by omega) (by omega) rfl)
  by_cases hb : (y 2).val < 256
  · rw [if_neg ha, if_pos hb, View.read_writes_cons_unit_of_not_mem v f _ _ _ y rfl 2 (by left; show (y 2).val < 256; omega)]
    exact View.read_writes_cons_unit_of_mem v f _ _ _ y _ rfl (hx 128 (by omega) (by omega) rfl)
  · rw [if_neg ha, if_neg hb]
    exact View.read_writes_cons_unit_of_mem v f _ _ _ y _ rfl (hx 256 (by omega) (by omega) rfl)

/-! ## The loop's stores -/

section Loop

variable (c : Dev nD) (i : grid0.Coords)
    (arg1 : Memref sig .tc .vmem S16x64x1024 .f32) (harg1 : arg1.IsWhole) (arg2 : Memref sig .tc .vmem S1024x392 .bf16) (harg2 : arg2.IsWhole)
    (arg3 : Memref sig .tc .vmem S1x384 .f32) (harg3 : arg3.IsWhole) (arg4 : Memref sig .tc .vmem S1x384 .f32) (harg4 : arg4.IsWhole)
    (arg5 : Memref sig .tc .vmem S1x384 .f32) (harg5 : arg5.IsWhole) (arg6 : Memref sig .tc .vmem S64x384 .bf16) (harg6 : arg6.IsWhole)
    (arg7 : Memref sig .tc .vmem S8x64 .f32) (harg7 : arg7.IsWhole) (arg8 : Memref sig .tc .vmem S16x64x8x64 .f32) (harg8 : arg8.IsWhole)
    (arg9 : Memref sig .tc .vmem S128x64 .f32) (harg9 : arg9.IsWhole) (arg10 : Memref sig .tc .vmem S64x128x384 .f32) (harg10 : arg10.IsWhole)

/-- A trip's result and piece as its payloads. -/
theorem trip_eq (X5 : BufTy.Contents (Elt F) arg5.view.ty) (X6 : BufTy.Contents (Elt F) arg6.view.ty) (X10 : BufTy.Contents (Elt F) arg10.view.ty)
    (k : Fin k0_t1_loop.trips) (acc : Vec F S128x64 .f32) :
    tripR_k0_t1 Variants.none c none i arg1 harg1 arg2 harg2 arg3 harg3 arg4 harg4 arg5 harg5 arg6 harg6 arg7 harg7 arg8 harg8 arg9 harg9 arg10 harg10 X5 X6 X10 k acc
      = k0_pay1 acc (View.readAt (Elt F) arg10.view (Rect.unit (s := S64x128x384) (k0_off1 k) S1x128x384.size (k0_off1_inb k)).toLoadRect X10)
          (View.readAt (Elt F) arg6.view (Rect.unit (s := S64x384) ![0, 0] S64x384.size inb_S64x384_S64x384_0_0).toLoadRect X6)
          (View.readAt (Elt F) arg5.view (Rect.unit (s := S1x384) ![0, 0] S1x384.size inb_S1x384_S1x384_0_0).toLoadRect X5)
    ∧ tripL_k0_t1 Variants.none c none i arg1 harg1 arg2 harg2 arg3 harg3 arg4 harg4 arg5 harg5 arg6 harg6 arg7 harg7 arg8 harg8 arg9 harg9 arg10 harg10 X5 X6 X10 k acc
      = [⟨Rect.unit (s := S16x64x8x64) (k0_off2 k) S16x1x8x64.size (k0_off2_inb k),
          k0_pay2 acc (View.readAt (Elt F) arg10.view (Rect.unit (s := S64x128x384) (k0_off1 k) S1x128x384.size (k0_off1_inb k)).toLoadRect X10)
          (View.readAt (Elt F) arg6.view (Rect.unit (s := S64x384) ![0, 0] S64x384.size inb_S64x384_S64x384_0_0).toLoadRect X6)
          (View.readAt (Elt F) arg5.view (Rect.unit (s := S1x384) ![0, 0] S1x384.size inb_S1x384_S1x384_0_0).toLoadRect X5)⟩] := by
  unfold tripR_k0_t1 tripL_k0_t1 trip_k0_t1
  exact ⟨rfl, rfl⟩

/-- The trips' carried value and stores, read back: the steps over any gate block that agrees with the scratch at the gate columns. -/
theorem st_eq (x5 : Vec F S1x384 .f32) (x6 : Vec F S64x384 .bf16) (X10 : BufTy.Contents (Elt F) arg10.view.ty) (g : Vec F S64x128x384 .f32)
    (hg : ∀ y, (y 2).val % 128 < 64 → arg10.view.read (Elt F) X10 y = g y) (init : Vec F S128x64 .f32) (k : ℕ) (hk : k ≤ 64) :
    (st_k0_t1 Variants.none c none i arg1 harg1 arg2 harg2 arg3 harg3 arg4 harg4 arg5 harg5 arg6 harg6 arg7 harg7 arg8 harg8 arg9 harg9 arg10 harg10 (harg5.unread x5) (harg6.unread x6) X10 init k).1
      = steps g x5 x6 init k
    ∧ ∀ (f : BufTy.Contents (Elt F) arg8.view.ty) (y : S16x64x8x64.Idx), (y 1).val < k →
      arg8.view.read (Elt F) (arg8.view.writes (Elt F) f (st_k0_t1 Variants.none c none i arg1 harg1 arg2 harg2 arg3 harg3 arg4 harg4 arg5 harg5 arg6 harg6 arg7 harg7 arg8 harg8 arg9 harg9 arg10 harg10 (harg5.unread x5) (harg6.unread x6) X10 init k).2) y
        = outBlock g x5 x6 init y := by
  induction k with
  | zero => exact ⟨rfl, fun f y hy => absurd hy (Nat.not_lt_zero _)⟩
  | succ k ih =>
    obtain ⟨ih1, ih2⟩ := ih (by omega)
    have hkt : k < k0_t1_loop.trips := lt_of_lt_of_eq (by omega : k < 64) (by decide)
    have hs := st_k0_t1_succ Variants.none c none i arg1 harg1 arg2 harg2 arg3 harg3 arg4 harg4 arg5 harg5 arg6 harg6 arg7 harg7 arg8 harg8 arg9 harg9 arg10 harg10 (harg5.unread x5) (harg6.unread x6) X10 init ⟨k, hkt⟩
    obtain ⟨hR, hL⟩ := trip_eq c i arg1 harg1 arg2 harg2 arg3 harg3 arg4 harg4 arg5 harg5 arg6 harg6 arg7 harg7 arg8 harg8 arg9 harg9 arg10 harg10 (harg5.unread x5) (harg6.unread x6) X10 ⟨k, hkt⟩ (steps g x5 x6 init k)
    dsimp only at hs
    rw [hs, ih1, hR, hL]
    have e5 : View.readAt (Elt F) arg5.view (Rect.unit (s := S1x384) ![0, 0] S1x384.size inb_S1x384_S1x384_0_0).toLoadRect (harg5.unread x5) = x5 := by
      rw [View.readAt_full, harg5.read_unread]
    have e6 : View.readAt (Elt F) arg6.view (Rect.unit (s := S64x384) ![0, 0] S64x384.size inb_S64x384_S64x384_0_0).toLoadRect (harg6.unread x6) = x6 := by
      rw [View.readAt_full, harg6.read_unread]
    have e10 : k0_pay1 (steps g x5 x6 init k) (View.readAt (Elt F) arg10.view (Rect.unit (s := S64x128x384) (k0_off1 ⟨k, hkt⟩) S1x128x384.size (k0_off1_inb ⟨k, hkt⟩)).toLoadRect X10) x6 x5
        = steps g x5 x6 init (k + 1) := by
      show _ = k0_pay1 (steps g x5 x6 init k) (slab g k) x6 x5
      refine pay1_congr _ _ _ _ _ fun j hj => ?_
      have hj0 : (j 0).val < 1 := (j 0).isLt
      have e : View.readAt (Elt F) arg10.view (Rect.unit (s := S64x128x384) (k0_off1 ⟨k, hkt⟩) S1x128x384.size (k0_off1_inb ⟨k, hkt⟩)).toLoadRect X10 j
          = arg10.view.read (Elt F) X10 (ix3 (⟨k % 64, Nat.mod_lt _ (by decide)⟩ : Fin 64) (j 1 : Fin 128) (j 2 : Fin 384)) := by
        refine congrArg (arg10.view.read (Elt F) X10) (funext fun a => Fin.ext ?_)
        have ho := congrFun (k0_off1_eq ⟨k, hkt⟩) a
        show k0_off1 ⟨k, hkt⟩ a + 1 * (j a).val = _
        rw [ho]
        fin_cases a
        · show k + 1 * (j 0).val = k % 64; omega
        · show 0 + 1 * (j 1).val = (j 1).val; omega
        · show 0 + 1 * (j 2).val = (j 2).val; omega
      rw [e]
      exact hg _ hj
    rw [e5, e6, e10]
    refine ⟨rfl, fun f y hy => ?_⟩
    have h0 : (y 0).val < 16 := (y 0).isLt
    have h2 : (y 2).val < 8 := (y 2).isLt
    have h3 : (y 3).val < 64 := (y 3).isLt
    by_cases hyk : (y 1).val = k
    · refine (View.read_writes_cons_unit_of_mem arg8.view f _ _ _ y (ix4 (y 0 : Fin 16) (0 : Fin 1) (y 2 : Fin 8) (y 3 : Fin 64)) (k0_off2_eq ⟨k, hkt⟩) (fun a => by
        fin_cases a
        · show (y 0).val = 0 + (y 0).val; omega
        · show (y 1).val = k + 0; omega
        · show (y 2).val = 0 + (y 2).val; omega
        · show (y 3).val = 0 + (y 3).val; omega)).trans ?_
      unfold k0_pay2
      rw [e10]
      unfold outBlock
      rw [hyk]
      pointwise
    · refine (View.read_writes_cons_unit_of_not_mem arg8.view f _ _ _ y (k0_off2_eq ⟨k, hkt⟩) 1 (by
        left; show (y 1).val < k; omega)).trans (ih2 f y (by omega))

end Loop

end Cert.KernelIdeal.Hand

end
-- ==== Proof.KBody.lean ====
/- One grid point's body, at any float values, as a triple over the values of KVal. -/
module

public import proofs.«01_k».proof.Proof.KVal
public import Idealize.ShloMosaic.Lib.Pointwise
public import Idealize.ShloMosaic.Lib.VecWindow
public import Idealize.ShloMosaic.Lib.LayoutPointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A load of a gate's columns of a padded bias row. -/
theorem readAt_row {sig' : RefSig} {κ : Kind} {sp : Space} (v : View sig' κ sp S1x384 .f32) (f : v.ty.Contents (Elt F)) (g : Fin 3)
    (off : Fin 2 → ℕ) (inb : ∀ a, off a + (![1, 64] : Fin 2 → ℕ) a ≤ S1x384.size a) (h : off = ![0, 128 * g.val]) :
    v.readAt (Elt F) (Rect.unit (s := S1x384) off ![1, 64] inb).toLoadRect f = gateRow g (v.read (Elt F) f) := by
  subst h
  funext j
  have hj0 : (j 0).val < 1 := (j 0).isLt
  refine congrArg (v.read (Elt F) f) (funext fun a => Fin.ext ?_)
  fin_cases a
  · show 0 + 1 * (j 0).val = 0; omega
  · show 128 * g.val + 1 * (j 1).val = 128 * g.val + (j 1).val; omega

/-- A read of the first 64 columns of a row is its gate 0. -/
theorem readAt_row0 {sig' : RefSig} {κ : Kind} {sp : Space} (v : View sig' κ sp S1x384 .f32) (f : v.ty.Contents (Elt F)) :
    v.readAt (Elt F) (Rect.unit (s := S1x384) ![0, 0] ![1, 64] inb_S1x384_S1x64_0_0).toLoadRect f = gateRow 0 (v.read (Elt F) f) :=
  readAt_row v f 0 _ _ rfl

/-- A read of the 64 columns from 128 is its gate 1. -/
theorem readAt_row1 {sig' : RefSig} {κ : Kind} {sp : Space} (v : View sig' κ sp S1x384 .f32) (f : v.ty.Contents (Elt F)) :
    v.readAt (Elt F) (Rect.unit (s := S1x384) ![0, 128] ![1, 64] inb_S1x384_S1x64_0_128).toLoadRect f = gateRow 1 (v.read (Elt F) f) :=
  readAt_row v f 1 _ _ rfl

/-- A read of the 64 columns from 256 is its gate 2. -/
theorem readAt_row2 {sig' : RefSig} {κ : Kind} {sp : Space} (v : View sig' κ sp S1x384 .f32) (f : v.ty.Contents (Elt F)) :
    v.readAt (Elt F) (Rect.unit (s := S1x384) ![0, 256] ![1, 64] inb_S1x384_S1x64_0_256).toLoadRect f = gateRow 2 (v.read (Elt F) f) :=
  readAt_row v f 2 _ _ rfl

/-- The state is stored as computed. -/
theorem pay3_eq (a : Vec F S128x64 .f32) : k0_pay3 a = a := by
  unfold k0_pay3
  funext j
  idx_vars j
  pointwise

section Body

variable (c : Dev nD) (i : grid0.Coords)
    (arg1 : Memref sig .tc .vmem S16x64x1024 .f32) (harg1 : arg1.IsWhole) (arg2 : Memref sig .tc .vmem S1024x392 .bf16) (harg2 : arg2.IsWhole)
    (arg3 : Memref sig .tc .vmem S1x384 .f32) (harg3 : arg3.IsWhole) (arg4 : Memref sig .tc .vmem S1x384 .f32) (harg4 : arg4.IsWhole)
    (arg5 : Memref sig .tc .vmem S1x384 .f32) (harg5 : arg5.IsWhole) (arg6 : Memref sig .tc .vmem S64x384 .bf16) (harg6 : arg6.IsWhole)
    (arg7 : Memref sig .tc .vmem S8x64 .f32) (harg7 : arg7.IsWhole) (arg8 : Memref sig .tc .vmem S16x64x8x64 .f32) (harg8 : arg8.IsWhole)
    (arg9 : Memref sig .tc .vmem S128x64 .f32) (harg9 : arg9.IsWhole) (arg10 : Memref sig .tc .vmem S64x128x384 .f32) (harg10 : arg10.IsWhole)

/-- What the body's stores to the output window read back as. -/
theorem runNext_out (hc : ¬ first i) (x1 : Vec F S16x64x1024 .f32) (x2 : Vec F S1024x392 .bf16) (x3 x4 x5 : Vec F S1x384 .f32) (x6 : Vec F S64x384 .bf16) (x7 : Vec F S8x64 .f32) (xs : Vec F S128x64 .f32) (f10 : BufTy.Contents (Elt F) arg10.view.ty) (f : BufTy.Contents (Elt F) arg8.view.ty) :
    arg8.view.read (Elt F) (arg8.view.writes (Elt F) f (runNext c i arg1 harg1 arg2 harg2 arg3 harg3 arg4 harg4 arg5 harg5 arg6 harg6 arg7 harg7 arg8 harg8 arg9 harg9 arg10 harg10 hc x1 x2 x3 x4 x5 x6 x7 xs f10).1) = outBlock (gates x1 x2 x3 x4) x5 x6 xs := by
  unfold runNext
  dsimp only
  sl_unfold_words
  simp only [readAt_row0, readAt_row1, readAt_row2, View.readAt_full arg1.view, View.readAt_full arg2.view, View.readAt_full arg9.view, harg9.read_unread, harg1.read_unread, harg2.read_unread, harg3.read_unread, harg4.read_unread]
  funext y
  have hy : (y 1).val < 64 := (y 1).isLt
  exact (st_eq c i arg1 harg1 arg2 harg2 arg3 harg3 arg4 harg4 arg5 harg5 arg6 harg6 arg7 harg7 arg8 harg8 arg9 harg9 arg10 harg10 x5 x6 _ _ (read_gates arg10.view f10 x1 x2 x3 x4) _ 64 le_rfl).2 f y hy

/-- What the body's stores to the state scratch read back as. -/
theorem runNext_state (hc : ¬ first i) (x1 : Vec F S16x64x1024 .f32) (x2 : Vec F S1024x392 .bf16) (x3 x4 x5 : Vec F S1x384 .f32) (x6 : Vec F S64x384 .bf16) (x7 : Vec F S8x64 .f32) (xs : Vec F S128x64 .f32) (f10 : BufTy.Contents (Elt F) arg10.view.ty) (f : BufTy.Contents (Elt F) arg9.view.ty) :
    arg9.view.read (Elt F) (arg9.view.writes (Elt F) f (runNext c i arg1 harg1 arg2 harg2 arg3 harg3 arg4 harg4 arg5 harg5 arg6 harg6 arg7 harg7 arg8 harg8 arg9 harg9 arg10 harg10 hc x1 x2 x3 x4 x5 x6 x7 xs f10).2.2.1) = steps (gates x1 x2 x3 x4) x5 x6 xs 64 := by
  unfold runNext
  dsimp only
  sl_unfold_words
  simp only [readAt_row0, readAt_row1, readAt_row2, View.readAt_full arg1.view, View.readAt_full arg2.view, View.readAt_full arg9.view, harg9.read_unread, harg1.read_unread, harg2.read_unread, harg3.read_unread, harg4.read_unread]
  refine (View.read_writes_full arg9.view f _ _ _).trans ?_
  rw [pay3_eq]
  exact (st_eq c i arg1 harg1 arg2 harg2 arg3 harg3 arg4 harg4 arg5 harg5 arg6 harg6 arg7 harg7 arg8 harg8 arg9 harg9 arg10 harg10 x5 x6 _ _ (read_gates arg10.view f10 x1 x2 x3 x4) _ 64 le_rfl).1

/-- What the body's stores to the output window read back as. -/
theorem runFirst_out (hc : first i) (x1 : Vec F S16x64x1024 .f32) (x2 : Vec F S1024x392 .bf16) (x3 x4 x5 : Vec F S1x384 .f32) (x6 : Vec F S64x384 .bf16) (x7 : Vec F S8x64 .f32) (f10 : BufTy.Contents (Elt F) arg10.view.ty) (f : BufTy.Contents (Elt F) arg8.view.ty) :
    arg8.view.read (Elt F) (arg8.view.writes (Elt F) f (runFirst c i arg1 harg1 arg2 harg2 arg3 harg3 arg4 harg4 arg5 harg5 arg6 harg6 arg7 harg7 arg8 harg8 arg9 harg9 arg10 harg10 hc x1 x2 x3 x4 x5 x6 x7 f10).1) = outBlock (gates x1 x2 x3 x4) x5 x6 (k0_pay11 x7) := by
  unfold runFirst
  dsimp only
  sl_unfold_words
  simp only [readAt_row0, readAt_row1, readAt_row2, View.readAt_full arg1.view, View.readAt_full arg2.view, View.readAt_full arg7.view, View.readCov_full arg9.view, harg7.read_unread, harg1.read_unread, harg2.read_unread, harg3.read_unread, harg4.read_unread]
  funext y
  have hy : (y 1).val < 64 := (y 1).isLt
  exact (st_eq c i arg1 harg1 arg2 harg2 arg3 harg3 arg4 harg4 arg5 harg5 arg6 harg6 arg7 harg7 arg8 harg8 arg9 harg9 arg10 harg10 x5 x6 _ _ (read_gates arg10.view f10 x1 x2 x3 x4) _ 64 le_rfl).2 f y hy

/-- What the body's stores to the state scratch read back as. -/
theorem runFirst_state (hc : first i) (x1 : Vec F S16x64x1024 .f32) (x2 : Vec F S1024x392 .bf16) (x3 x4 x5 : Vec F S1x384 .f32) (x6 : Vec F S64x384 .bf16) (x7 : Vec F S8x64 .f32) (f10 : BufTy.Contents (Elt F) arg10.view.ty) (f : BufTy.Contents (Elt F) arg9.view.ty) :
    arg9.view.read (Elt F) (arg9.view.writes (Elt F) f (runFirst c i arg1 harg1 arg2 harg2 arg3 harg3 arg4 harg4 arg5 harg5 arg6 harg6 arg7 harg7 arg8 harg8 arg9 harg9 arg10 harg10 hc x1 x2 x3 x4 x5 x6 x7 f10).2.2.1) = steps (gates x1 x2 x3 x4) x5 x6 (k0_pay11 x7) 64 := by
  unfold runFirst
  dsimp only
  sl_unfold_words
  simp only [readAt_row0, readAt_row1, readAt_row2, View.readAt_full arg1.view, View.readAt_full arg2.view, View.readAt_full arg7.view, View.readCov_full arg9.view, harg7.read_unread, harg1.read_unread, harg2.read_unread, harg3.read_unread, harg4.read_unread]
  refine (View.read_writes_full arg9.view f _ _ _).trans ?_
  rw [pay3_eq]
  exact (st_eq c i arg1 harg1 arg2 harg2 arg3 harg3 arg4 harg4 arg5 harg5 arg6 harg6 arg7 harg7 arg8 harg8 arg9 harg9 arg10 harg10 x5 x6 _ _ (read_gates arg10.view f10 x1 x2 x3 x4) _ 64 le_rfl).1

/-- The body at a point that is not the first: from the state `xs` it runs 64 steps, leaving the states in the output window and the last one in the scratch. -/
theorem bodyNext (hc : ¬ first i) (x1 : Vec F S16x64x1024 .f32) (x2 : Vec F S1024x392 .bf16) (x3 x4 x5 : Vec F S1x384 .f32) (x6 : Vec F S64x384 .bf16) (x7 : Vec F S8x64 .f32) (xs : Vec F S128x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ owns (c : Thread nD τ) arg9 fullShare xs ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare (outBlock (gates x1 x2 x3 x4) x5 x6 xs) ∗ owns (c : Thread nD τ) arg9 fullShare (steps (gates x1 x2 x3 x4) x5 x6 xs 64)
          ∗ (∃ d, owns (c : Thread nD τ) arg10 fullShare d)) -∗ K ⟨⟩))
      ⊢ wp frame (wpE (defs₀ (F := F)) Variants.none c none) E (cc0__entity_kernel i arg1 harg1 arg2 harg2 arg3 harg3 arg4 harg4 arg5 harg5 arg6 harg6 arg7 harg7 arg8 harg8 arg9 harg9 arg10 harg10) K := by
  iintro ⟨H1, H2, H3, H4, H5, H6, H7, H8, H9, ⟨%d, H10⟩, Hk⟩
  ihave H10 := (show owns (c : Thread nD τ) arg10 fullShare d ⊢ iprop(∃ f, ⌜arg10.view.read (Elt F) f = d⌝ ∗ (arg10.view.loc (c : Thread nD τ) ↦[arg10.view.set]{fullShare} f)) from by unfold owns; exact .rfl) $$ H10
  icases H10 with ⟨%f10, -, H10⟩
  iapply (runNext c i arg1 harg1 arg2 harg2 arg3 harg3 arg4 harg4 arg5 harg5 arg6 harg6 arg7 harg7 arg8 harg8 arg9 harg9 arg10 harg10 hc x1 x2 x3 x4 x5 x6 x7 xs f10).2.2.2 E K
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iintro ⟨G1, G2, G3, G4, G5, G6, G7, ⟨%f8, G8⟩, ⟨%f9, G9⟩, G10⟩
  iapply Hk
  isplitl [G1]
  · iexact G1
  isplitl [G2]
  · iexact G2
  isplitl [G3]
  · iexact G3
  isplitl [G4]
  · iexact G4
  isplitl [G5]
  · iexact G5
  isplitl [G6]
  · iexact G6
  isplitl [G7]
  · iexact G7
  isplitl [G8]
  · unfold owns
    iexists _
    isplitr
    · ipureintro
      exact runNext_out c i arg1 harg1 arg2 harg2 arg3 harg3 arg4 harg4 arg5 harg5 arg6 harg6 arg7 harg7 arg8 harg8 arg9 harg9 arg10 harg10 hc x1 x2 x3 x4 x5 x6 x7 xs f10 f8
    iexact G8
  isplitl [G9]
  · unfold owns
    iexists _
    isplitr
    · ipureintro
      exact runNext_state c i arg1 harg1 arg2 harg2 arg3 harg3 arg4 harg4 arg5 harg5 arg6 harg6 arg7 harg7 arg8 harg8 arg9 harg9 arg10 harg10 hc x1 x2 x3 x4 x5 x6 x7 xs f10 f9
    iexact G9
  iexists _
  unfold owns
  iexists _
  isplitr
  swap
  · iexact G10
  ipureintro; rfl

/-- The body at the first point: the same 64 steps, from 16 copies of the initial entity state. -/
theorem bodyFirst (hc : first i) (x1 : Vec F S16x64x1024 .f32) (x2 : Vec F S1024x392 .bf16) (x3 x4 x5 : Vec F S1x384 .f32) (x6 : Vec F S64x384 .bf16) (x7 : Vec F S8x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
          ∗ owns (c : Thread nD τ) arg8 fullShare (outBlock (gates x1 x2 x3 x4) x5 x6 (k0_pay11 x7)) ∗ owns (c : Thread nD τ) arg9 fullShare (steps (gates x1 x2 x3 x4) x5 x6 (k0_pay11 x7) 64)
          ∗ (∃ d, owns (c : Thread nD τ) arg10 fullShare d)) -∗ K ⟨⟩))
      ⊢ wp frame (wpE (defs₀ (F := F)) Variants.none c none) E (cc0__entity_kernel i arg1 harg1 arg2 harg2 arg3 harg3 arg4 harg4 arg5 harg5 arg6 harg6 arg7 harg7 arg8 harg8 arg9 harg9 arg10 harg10) K := by
  iintro ⟨H1, H2, H3, H4, H5, H6, H7, H8, H9, ⟨%d, H10⟩, Hk⟩
  ihave H10 := (show owns (c : Thread nD τ) arg10 fullShare d ⊢ iprop(∃ f, ⌜arg10.view.read (Elt F) f = d⌝ ∗ (arg10.view.loc (c : Thread nD τ) ↦[arg10.view.set]{fullShare} f)) from by unfold owns; exact .rfl) $$ H10
  icases H10 with ⟨%f10, -, H10⟩
  iapply (runFirst c i arg1 harg1 arg2 harg2 arg3 harg3 arg4 harg4 arg5 harg5 arg6 harg6 arg7 harg7 arg8 harg8 arg9 harg9 arg10 harg10 hc x1 x2 x3 x4 x5 x6 x7 f10).2.2.2 E K
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  iintro ⟨G1, G2, G3, G4, G5, G6, G7, ⟨%f8, G8⟩, ⟨%f9, G9⟩, G10⟩
  iapply Hk
  isplitl [G1]
  · iexact G1
  isplitl [G2]
  · iexact G2
  isplitl [G3]
  · iexact G3
  isplitl [G4]
  · iexact G4
  isplitl [G5]
  · iexact G5
  isplitl [G6]
  · iexact G6
  isplitl [G7]
  · iexact G7
  isplitl [G8]
  · unfold owns
    iexists _
    isplitr
    · ipureintro
      exact runFirst_out c i arg1 harg1 arg2 harg2 arg3 harg3 arg4 harg4 arg5 harg5 arg6 harg6 arg7 harg7 arg8 harg8 arg9 harg9 arg10 harg10 hc x1 x2 x3 x4 x5 x6 x7 f10 f8
    iexact G8
  isplitl [G9]
  · unfold owns
    iexists _
    isplitr
    · ipureintro
      exact runFirst_state c i arg1 harg1 arg2 harg2 arg3 harg3 arg4 harg4 arg5 harg5 arg6 harg6 arg7 harg7 arg8 harg8 arg9 harg9 arg10 harg10 hc x1 x2 x3 x4 x5 x6 x7 f10 f9
    iexact G9
  iexists _
  unfold owns
  iexists _
  isplitr
  swap
  · iexact G10
  ipureintro; rfl

end Body

end Cert.KernelIdeal.Hand

end
-- ==== Proof.KFrame.lean ====
/- The kernel's region, at any float values: what the state scratch holds between points, the pipeline's proof data, and the run of the whole program. -/
module

public import proofs.«01_k».proof.Proof.KBody
public import Idealize.ShloMosaic.Lib.Claim
public import Idealize.ShloMosaic.Lib.Pointwise
public import Idealize.ShloMosaic.Lib.VecWindow
public import Idealize.ShloMosaic.Lib.LayoutPointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The recurrence over the grid -/

/-- The gate inputs of point `t`'s 64 steps. -/
def gatesAt (c : Dev nD) (t : Fin cfg0.N) : Vec F S64x128x384 .f32 :=
  gates (iblk m c 0 t) (iblk m c 1 t) (iblk m c 2 t) (iblk m c 3 t)

/-- The state before point `n`: 16 copies of the initial entity state, then 64 steps a point. -/
def stAt (c : Dev nD) : ℕ → Vec F S128x64 .f32
  | 0 => k0_pay11 (iblk m c 6 ⟨0, by rw [show cfg0.N = 32 from N_0]; decide⟩)
  | n + 1 => if h : n < cfg0.N then steps (gatesAt m c ⟨n, h⟩) (iblk m c 4 ⟨n, h⟩) (iblk m c 5 ⟨n, h⟩) (stAt c n) 64 else stAt c n

/-- The state after point `t` is the state before it, run through the point's 64 steps. -/
theorem stAt_succ (c : Dev nD) (t : Fin cfg0.N) :
    stAt m c (t.val + 1) = steps (gatesAt m c t) (iblk m c 4 t) (iblk m c 5 t) (stAt m c t.val) 64 := dif_pos t.isLt

/-- The condition of the body's `scf.if` holds at the first point alone. -/
theorem first_iff : ∀ t : Fin cfg0.N, first (grid0.coords t) ↔ t.val = 0 :=
  (fun t => by
    have ht : t.val < 32 := Nat.lt_of_lt_of_eq t.isLt N_0
    have e0 : (grid0.coords t 0).val = t.val / 1 % 32 := Pipeline.Grid.coords_val t 0 (by decide) rfl
    simp only [first, e0]
    word_cmp
   : ∀ t : Fin grid0.N, first (grid0.coords t) ↔ t.val = 0)

/-- The state scratch and the gate scratch. -/
abbrev scState : Memref sig .tc .vmem S128x64 .f32 := Memref.whole cc0_scratch0
/-- The scratch that holds a point's gate inputs. -/
abbrev scGates : Memref sig .tc .vmem S64x128x384 .f32 := Memref.whole cc0_scratch1

/-- The region's scoped rest at anything: both scratches and the generator register. -/
theorem rest_eq (c : Dev nD) :
    (Pipeline.ΦA spec0 c : sProp 𝕄)
      = iprop(iprop((∃ d, owns (c : Thread nD τ) scState fullShare d) ∗ (∃ d, owns (c : Thread nD τ) scGates fullShare d)) ∗ (∃ r, prngReg c r)) := by
  unfold Pipeline.ΦA; rw [scopedRest0_eq]; simp only [scState, scGates, owns_whole]; try rfl

/-- The invariant before point `n`: before the first the scoped rest at anything; later the state scratch at the state, the gate scratch at anything. -/
def inv (c : Dev nD) : (n : ℕ) → n ≤ cfg0.N → sProp 𝕄
  | 0, _ => Pipeline.ΦA spec0 c
  | n + 1, _ => iprop(iprop(owns (c : Thread nD τ) scState fullShare (stAt m c (n + 1)) ∗ (∃ d, owns (c : Thread nD τ) scGates fullShare d)) ∗ (∃ r, prngReg c r))

/-- Before the first point the scratches hold anything. -/
theorem inv_zero (c : Dev nD) (n : ℕ) (h : n ≤ cfg0.N) (hz : n = 0) : inv m c n h = Pipeline.ΦA spec0 c := by
  subst hz; rfl

/-- Before a later point the state scratch holds the state, the gate scratch anything. -/
theorem inv_pos (c : Dev nD) (n : ℕ) (h : n ≤ cfg0.N) (hz : n ≠ 0) :
    inv m c n h = iprop(iprop(owns (c : Thread nD τ) scState fullShare (stAt m c n) ∗ (∃ d, owns (c : Thread nD τ) scGates fullShare d)) ∗ (∃ r, prngReg c r)) := by
  cases n with
  | zero => exact absurd rfl hz
  | succ n => rfl

/-! ## The proof data -/

/-- The pipeline's proof data on core `c`: each input's buffer at its block, the output's at the point's 64 states. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (gatesAt m c t) (iblk m c 4 t) (iblk m c 5 t) (stAt m c t.val)
  Φ t := inv m c t.val (Nat.le_of_lt_succ t.isLt)
  q _ := fullShare
  owed _ := 0

/-- Each window's array starts at what the region reads. -/
theorem A_eq (c : Dev nD) (w : Fin cfg0.W) : (dats m 0 c).A w = V m c (Pipeline.arrRef spec0 w) := by
  dsimp only [dats]

/-- The proof data's invariant before a point is `inv`. -/
theorem inv_castSucc (c : Dev nD) (t : Fin cfg0.N) :
    (dats m 0 c).Φ t.castSucc = inv m c t.val (Nat.le_of_lt t.isLt) := by
  dsimp only [dats]; exact Pipeline.Dat.Φ_castSucc (inv m c) t

/-- Window 0 leaves a point as it entered it. -/
theorem after_0 (c : Dev nD) (t : Fin cfg0.N) : (dats m 0 c).after 0 t = iblk m c 0 t := by dsimp only [dats]
/-- Window 1 leaves a point as it entered it. -/
theorem after_1 (c : Dev nD) (t : Fin cfg0.N) : (dats m 0 c).after 1 t = iblk m c 1 t := by dsimp only [dats]
/-- Window 2 leaves a point as it entered it. -/
theorem after_2 (c : Dev nD) (t : Fin cfg0.N) : (dats m 0 c).after 2 t = iblk m c 2 t := by dsimp only [dats]
/-- Window 3 leaves a point as it entered it. -/
theorem after_3 (c : Dev nD) (t : Fin cfg0.N) : (dats m 0 c).after 3 t = iblk m c 3 t := by dsimp only [dats]
/-- Window 4 leaves a point as it entered it. -/
theorem after_4 (c : Dev nD) (t : Fin cfg0.N) : (dats m 0 c).after 4 t = iblk m c 4 t := by dsimp only [dats]
/-- Window 5 leaves a point as it entered it. -/
theorem after_5 (c : Dev nD) (t : Fin cfg0.N) : (dats m 0 c).after 5 t = iblk m c 5 t := by dsimp only [dats]
/-- Window 6 leaves a point as it entered it. -/
theorem after_6 (c : Dev nD) (t : Fin cfg0.N) : (dats m 0 c).after 6 t = iblk m c 6 t := by dsimp only [dats]
/-- Window 7 leaves a point with the block of the new states. -/
theorem after_7 (c : Dev nD) (t : Fin cfg0.N) :
    (dats m 0 c).after 7 t = outBlock (gatesAt m c t) (iblk m c 4 t) (iblk m c 5 t) (stAt m c t.val) := by dsimp only [dats]

/-- Window 0's buffer holds the block of its array when a point starts. -/
theorem before_0 (c : Dev nD) (t : Fin cfg0.N) (d) : (dats m 0 c).before 0 t d = iblk m c 0 t :=
  before0_0_of m (dats m 0 c) (A_eq m c 0) (after_0 m c) t d
/-- Window 1's buffer holds the block of its array when a point starts. -/
theorem before_1 (c : Dev nD) (t : Fin cfg0.N) (d) : (dats m 0 c).before 1 t d = iblk m c 1 t :=
  before0_1_of m (dats m 0 c) (A_eq m c 1) (after_1 m c) t d
/-- Window 2's buffer holds the block of its array when a point starts. -/
theorem before_2 (c : Dev nD) (t : Fin cfg0.N) (d) : (dats m 0 c).before 2 t d = iblk m c 2 t :=
  before0_2_of m (dats m 0 c) (A_eq m c 2) (after_2 m c) t d
/-- Window 3's buffer holds the block of its array when a point starts. -/
theorem before_3 (c : Dev nD) (t : Fin cfg0.N) (d) : (dats m 0 c).before 3 t d = iblk m c 3 t :=
  before0_3_of m (dats m 0 c) (A_eq m c 3) (after_3 m c) t d
/-- Window 4's buffer holds the block of its array when a point starts. -/
theorem before_4 (c : Dev nD) (t : Fin cfg0.N) (d) : (dats m 0 c).before 4 t d = iblk m c 4 t :=
  before0_4_of m (dats m 0 c) (A_eq m c 4) (after_4 m c) t d
/-- Window 5's buffer holds the block of its array when a point starts. -/
theorem before_5 (c : Dev nD) (t : Fin cfg0.N) (d) : (dats m 0 c).before 5 t d = iblk m c 5 t :=
  before0_5_of m (dats m 0 c) (A_eq m c 5) (after_5 m c) t d
/-- Window 6's buffer holds the block of its array when a point starts. -/
theorem before_6 (c : Dev nD) (t : Fin cfg0.N) (d) : (dats m 0 c).before 6 t d = iblk m c 6 t :=
  before0_6_of m (dats m 0 c) (A_eq m c 6) (after_6 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = inv m c (t.val + 1) t.isLt from rfl, inv_pos m c _ _ (Nat.succ_ne_zero _), stAt_succ]
  rw [show (dats m 0 c).leavesExact 0 t = owns (c : Thread nD τ) (win0_0.stage (cfg0.slots t 0)) fullShare ((dats m 0 c).after 0 t) from by
    unfold Dat.leavesExact; rw [show cfg0.idle 0 (grid0.coords t) = false from rfl], after_0]
  rw [show (dats m 0 c).leavesExact 1 t = owns (c : Thread nD τ) (win0_1.stage (cfg0.slots t 1)) fullShare ((dats m 0 c).after 1 t) from by
    unfold Dat.leavesExact; rw [show cfg0.idle 1 (grid0.coords t) = false from rfl], after_1]
  rw [show (dats m 0 c).leavesExact 2 t = owns (c : Thread nD τ) (win0_2.stage (cfg0.slots t 2)) fullShare ((dats m 0 c).after 2 t) from by
    unfold Dat.leavesExact; rw [show cfg0.idle 2 (grid0.coords t) = false from rfl], after_2]
  rw [show (dats m 0 c).leavesExact 3 t = owns (c : Thread nD τ) (win0_3.stage (cfg0.slots t 3)) fullShare ((dats m 0 c).after 3 t) from by
    unfold Dat.leavesExact; rw [show cfg0.idle 3 (grid0.coords t) = false from rfl], after_3]
  rw [show (dats m 0 c).leavesExact 4 t = owns (c : Thread nD τ) (win0_4.stage (cfg0.slots t 4)) fullShare ((dats m 0 c).after 4 t) from by
    unfold Dat.leavesExact; rw [show cfg0.idle 4 (grid0.coords t) = false from rfl], after_4]
  rw [show (dats m 0 c).leavesExact 5 t = owns (c : Thread nD τ) (win0_5.stage (cfg0.slots t 5)) fullShare ((dats m 0 c).after 5 t) from by
    unfold Dat.leavesExact; rw [show cfg0.idle 5 (grid0.coords t) = false from rfl], after_5]
  rw [show (dats m 0 c).leavesExact 6 t = owns (c : Thread nD τ) (win0_6.stage (cfg0.slots t 6)) fullShare ((dats m 0 c).after 6 t) from by
    unfold Dat.leavesExact; rw [show cfg0.idle 6 (grid0.coords t) = false from rfl], after_6]
  rw [show (dats m 0 c).leavesExact 7 t = owns (c : Thread nD τ) (win0_7.stage (cfg0.slots t 7)) fullShare ((dats m 0 c).after 7 t) from by
    unfold Dat.leavesExact; rw [show cfg0.idle 7 (grid0.coords t) = false from rfl], after_7]
  unfold gatesAt
  by_cases hz : t.val = 0
  · rw [inv_castSucc m c t, inv_zero m c _ _ hz, rest_eq]
    have e : stAt m c t.val = k0_pay11 (iblk m c 6 t) := by
      obtain ⟨n, hn⟩ := t
      dsimp only at hz
      subst hz
      rfl
    rw [e]
    iintro ⟨⟨⟨HS, HG⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyFirst c (grid0.coords t) _ _ _ _ _ _ _ _ _ _ _ _ _ _ _ _ _ _ _ _ ((first_iff t).mpr hz) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    isplitl [HG]; · iexact HG
    iintro ⟨H0, H1, H2, H3, H4, H5, H6, H7, HS, HG⟩
    isplitl [HS HG Hg]
    · isplitl [HS HG]
      · isplitl [HS]; · iexact HS
        iexact HG
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [inv_castSucc m c t, inv_pos m c _ _ hz]
    iintro ⟨⟨⟨HS, HG⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyNext c (grid0.coords t) _ _ _ _ _ _ _ _ _ _ _ _ _ _ _ _ _ _ _ _ (fun h => hz ((first_iff t).mp h)) (iblk m c 0 t) (iblk m c 1 t) (iblk m c 2 t) (iblk m c 3 t) (iblk m c 4 t) (iblk m c 5 t) (iblk m c 6 t) (stAt m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    isplitl [HG]; · iexact HG
    iintro ⟨H0, H1, H2, H3, H4, H5, H6, H7, HS, HG⟩
    isplitl [HS HG Hg]
    · isplitl [HS HG]
      · isplitl [HS]; · iexact HS
        iexact HG
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The function the pipeline calls at a point is the body at that point. -/
theorem row_eq (t : Fin cfg0.N) :
    defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The region enters with the invariant. -/
theorem inv_in (c : Dev nD) : Pipeline.ΦA spec0 c ⊢ (dats m 0 c).Φ 0 := by
  rw [show (dats m 0 c).Φ 0 = inv m c 0 (Nat.zero_le _) from rfl, inv_zero m c 0 _ rfl]

/-- The region leaves its scratches at anything. -/
theorem inv_out (c : Dev nD) : (dats m 0 c).Φ (Fin.last cfg0.N) ⊢ Pipeline.ΦA spec0 c := by
  have hN : cfg0.N = 32 := N_0
  rw [show (dats m 0 c).Φ (Fin.last cfg0.N) = inv m c (Fin.last cfg0.N).val (Nat.le_of_lt_succ (Fin.last cfg0.N).isLt) from rfl,
    inv_pos m c _ _ (by rw [Fin.val_last]; omega), rest_eq]
  iintro ⟨⟨HS, HG⟩, Hg⟩
  isplitl [HS HG]
  · isplitl [HS]
    · iexists _; iexact HS
    iexact HG
  iexact Hg

/-! ## The run -/

set_option backward.isDefEq.respectTransparency.types false in
set_option maxHeartbeats 800000 in
/-- The launch: every array of the pipeline ends at what the proof data say, every other buffer as the operations around the region leave it, every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The run of the whole program ends in the arrays of the proof data. -/
theorem run_post : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the arguments end unchanged and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_post m ρ)) ((θ_run defs _ _).mono (fun _ h => h.2) (run_quiescent m ρ))

end Cert.KernelIdeal.Hand

end
-- ==== Proof.Spec.lean ====
/- The recurrence as extended reals, free of any program: what one step makes of a state and its gate inputs, the gate inputs as the reference composes them and as the kernel does, and their equality on real operands. -/
module

public import Idealize.ShloMosaic.Lib.Pointwise

@[expose] public section

set_option maxRecDepth 16384

noncomputable section

namespace Cert.Spec

open Idealize.ShloMosaic

/-! ## One step -/

/-- The new state of one entity's component, from the three gate inputs, the three gate products of the state and the state. -/
def cell (a b c p q r s : EReal) : EReal :=
  (1 - Ideal.logistic (b + q)) * Ideal.tanh (c + Ideal.logistic (a + p) * r) + Ideal.logistic (b + q) * s

/-- A logistic is a real number of the unit interval. -/
theorem logistic_real (x : EReal) : ∃ z : ℝ, 0 ≤ z ∧ z ≤ 1 ∧ Ideal.logistic x = (z : EReal) := by
  unfold Ideal.logistic
  induction x with
  | bot => exact ⟨0, le_refl 0, zero_le_one, by
      rw [EReal.neg_bot, show Ideal.exp ⊤ = ⊤ from rfl, show (1 : EReal) + ⊤ = ⊤ from rfl, Ideal.div, if_neg EReal.top_ne_zero, EReal.inv_top, mul_zero]; rfl⟩
  | top => exact ⟨1, zero_le_one, le_refl 1, by
      rw [EReal.neg_top, show Ideal.exp ⊥ = 0 from rfl, add_zero, Ideal.div, if_neg one_ne_zero, one_mul, ← EReal.coe_one, ← EReal.coe_inv, inv_one]⟩
  | coe x =>
    have hp : 0 < 1 + Real.exp (-x) := by positivity
    refine ⟨(1 + Real.exp (-x))⁻¹, by positivity, inv_le_one_of_one_le₀ (by linarith [Real.exp_pos (-x)]), ?_⟩
    have e : (1 : EReal) + Ideal.exp (-(x : EReal)) = ((1 + Real.exp (-x) : ℝ) : EReal) := by
      rw [← EReal.coe_neg]; simp only [Ideal.exp]; norm_cast
    rw [e, Ideal.div, if_neg (by exact_mod_cast hp.ne'), one_mul, EReal.coe_inv]

/-- A hyperbolic tangent is a real number. -/
theorem tanh_real (x : EReal) : ∃ n : ℝ, Ideal.tanh x = (n : EReal) := by
  induction x with
  | bot => exact ⟨-1, rfl⟩
  | top => exact ⟨1, rfl⟩
  | coe x => exact ⟨Real.tanh x, rfl⟩

/-- The blend of a real `n` and any `s` by a weight `z` of the unit interval, in its two forms. -/
theorem blend (n z : ℝ) (h0 : 0 ≤ z) (s : EReal) :
    (n : EReal) + z * (s - n) = (1 - z) * n + z * s := by
  rcases h0.eq_or_lt with rfl | hz
  · simp
  induction s with
  | bot => simp [EReal.coe_mul_bot_of_pos hz]
  | top =>
    rw [EReal.top_sub_coe, EReal.coe_mul_top_of_pos hz, EReal.coe_add_top]
    rw [show ((1 : EReal) - z) * n = (((1 - z) * n : ℝ) : EReal) by norm_cast, EReal.coe_add_top]
  | coe s => norm_cast; ring

/-- The step as the kernel blends it. -/
theorem cell_eq (a b c p q r s : EReal) :
    Ideal.tanh (c + Ideal.logistic (a + p) * r)
        + Ideal.logistic (b + q) * (s - Ideal.tanh (c + Ideal.logistic (a + p) * r)) = cell a b c p q r s := by
  unfold cell
  obtain ⟨z, h0, h1, ez⟩ := logistic_real (b + q)
  obtain ⟨n, en⟩ := tanh_real (c + Ideal.logistic (a + p) * r)
  rw [ez, en]
  exact blend n z h0 s

/-- Column `d` of gate `g` among the 192 gate rows. -/
def col (g : Fin 3) (d : Fin 64) : Fin 192 := ⟨64 * g.val + d.val, by have := g.isLt; have := d.isLt; omega⟩

/-- A gate product of a state, with its bias. -/
def gh (whh : Fin 192 → Fin 64 → EReal) (bhh : Fin 192 → EReal) (s : Fin 64 → EReal) (g : Fin 192) : EReal :=
  (∑ e, s e * whh g e) + bhh g

/-- One step of one entity. -/
def next (gx : Fin 192 → EReal) (whh : Fin 192 → Fin 64 → EReal) (bhh : Fin 192 → EReal) (s : Fin 64 → EReal) (d : Fin 64) : EReal :=
  cell (gx (col 0 d)) (gx (col 1 d)) (gx (col 2 d)) (gh whh bhh s (col 0 d)) (gh whh bhh s (col 1 d)) (gh whh bhh s (col 2 d)) (s d)

/-- The state of one entity after `t` steps. -/
def state (gx : ℕ → Fin 192 → EReal) (whh : Fin 192 → Fin 64 → EReal) (bhh : Fin 192 → EReal) (s0 : Fin 64 → EReal) : ℕ → Fin 64 → EReal
  | 0 => s0
  | t + 1 => next (gx t) whh bhh (state gx whh bhh s0 t)

/-! ## Sums and products of reals among extended reals -/

/-- A sum of reals, read among the extended reals. -/
theorem coe_sum {ι : Type} (s : Finset ι) (f : ι → ℝ) : ((∑ i ∈ s, f i : ℝ) : EReal) = ∑ i ∈ s, (f i : EReal) := by
  induction s using Finset.cons_induction with
  | empty => simp
  | cons e s he ih => rw [Finset.sum_cons, Finset.sum_cons, EReal.coe_add, ih]

/-- A nonnegative real distributes over any sum. -/
theorem mul_add_nonneg (w : ℝ) (hw : 0 ≤ w) (x y : EReal) : (w : EReal) * (x + y) = w * x + w * y :=
  EReal.left_distrib_of_nonneg_of_ne_top (by exact_mod_cast hw) (EReal.coe_ne_top w) x y

/-- A real distributes over the sum of a real and anything. -/
theorem mul_add_real (w x : ℝ) (y : EReal) : (w : EReal) * ((x : EReal) + y) = ((w * x : ℝ) : EReal) + w * y := by
  rcases lt_trichotomy w 0 with h | h | h
  · induction y with
    | bot => rw [EReal.coe_mul_bot_of_neg h, EReal.add_bot, EReal.coe_mul_bot_of_neg h, EReal.coe_add_top]
    | top => rw [EReal.coe_add_top, EReal.coe_mul_top_of_neg h, EReal.add_bot]
    | coe y => norm_cast; ring
  · subst h; simp
  · rw [mul_add_nonneg w h.le, EReal.coe_mul]

/-! ## The gate inputs -/

/-- The square root of the hidden width, as the host computes it. -/
def width : EReal := Ideal.sqrt (Ideal.ofBits .f32 0x44800000#32)

/-- The square root of the feature count is 32. -/
theorem width_eq : width = ((32 : ℝ) : EReal) := by
  unfold width
  rw [show Ideal.ofBits .f32 0x44800000#32 = ((1024 : ℝ) : EReal) by
    simp [Ideal.ofBits, Ideal.ieee, -EReal.coe_mul]; norm_num]
  show (if (1024 : ℝ) < 0 then ⊥ else (Real.sqrt 1024 : EReal)) = _
  rw [if_neg (by norm_num), show (1024 : ℝ) = 32 ^ 2 by norm_num, Real.sqrt_sq (by norm_num)]

/-- The initial word of the maxima is the least extended real. -/
theorem least_eq : Ideal.ofBits .f32 0xFF800000#32 = ⊥ := by simp [Ideal.ofBits, Ideal.ieee]

/-- The largest of eight logits. -/
def top (l : Fin 8 → EReal) : EReal := Finset.univ.fold max ⊥ l

/-- The routing weights: a softmax of eight logits. -/
def soft (l : Fin 8 → EReal) (n : Fin 8) : EReal :=
  Ideal.div (Ideal.exp (l n - top l)) (∑ i, Ideal.exp (l i - top l))

/-- The weights of real logits are nonnegative reals. -/
theorem soft_real (l : Fin 8 → ℝ) (n : Fin 8) : ∃ w : ℝ, 0 ≤ w ∧ soft (fun i => (l i : EReal)) n = (w : EReal) := by
  have ht : top (fun i => (l i : EReal)) ≠ ⊤ :=
    ((Finset.fold_max_lt _).mpr ⟨bot_lt_top, fun i _ => EReal.coe_lt_top _⟩).ne
  have hb : top (fun i => (l i : EReal)) ≠ ⊥ :=
    ((Finset.lt_fold_max _).mpr (Or.inr ⟨(0 : Fin 8), Finset.mem_univ _, EReal.bot_lt_coe (l 0)⟩)).ne'
  obtain ⟨M, hM⟩ : ∃ M : ℝ, top (fun i => (l i : EReal)) = (M : EReal) := ⟨_, (EReal.coe_toReal ht hb).symm⟩
  have hE : ∀ i, Ideal.exp ((l i : EReal) - M) = (Real.exp (l i - M) : EReal) := fun i => by
    rw [← EReal.coe_sub]; rfl
  have hs : (0 : ℝ) < ∑ i : Fin 8, Real.exp (l i - M) := Finset.sum_pos (fun i _ => Real.exp_pos _) ⟨0, Finset.mem_univ _⟩
  have hS : (∑ i : Fin 8, (Real.exp (l i - M) : EReal)) = ((∑ i : Fin 8, Real.exp (l i - M) : ℝ) : EReal) := (coe_sum _ _).symm
  refine ⟨Real.exp (l n - M) * (∑ i : Fin 8, Real.exp (l i - M))⁻¹, by positivity, ?_⟩
  unfold soft
  simp only [hM, hE, hS]
  rw [Ideal.div, if_neg (by exact_mod_cast hs.ne'), EReal.coe_mul, EReal.coe_inv]

section Gates

variable (h : Fin 1024 → EReal) (keys : Fin 8 → Fin 1024 → EReal) (wi : Fin 64 → Fin 1024 → EReal) (bi : Fin 64 → EReal)
  (wih : Fin 192 → Fin 64 → EReal) (bih : Fin 192 → EReal)

/-- The reference's logits, -/
def logitR (n : Fin 8) : EReal := Ideal.div (∑ d, h d * keys n d) width

/-- and the kernel's, whose keys are divided on the host. -/
def logitK (n : Fin 8) : EReal := ∑ d, h d * Ideal.div (keys n d) width

/-- The reference's gate inputs: the projection weighted, then multiplied by the input weights. -/
def gxR (n : Fin 8) (g : Fin 192) : EReal :=
  (∑ e, (soft (logitR h keys) n * ((∑ d, h d * wi e d) + bi e)) * wih g e) + bih g

/-- The kernel's: the two weights composed on the host, the product weighted after it. -/
def gxK (n : Fin 8) (g : Fin 192) : EReal :=
  soft (logitK h keys) n * ((∑ d, h d * (∑ e, wih g e * wi e d)) + ∑ e, wih g e * bi e) + bih g

/-- Of real operands both logits are the real inner product over 32. -/
theorem logit_eq (h : Fin 1024 → ℝ) (keys : Fin 8 → Fin 1024 → ℝ) (n : Fin 8) :
    logitK (fun d => (h d : EReal)) (fun n d => (keys n d : EReal)) n = (((∑ d, h d * keys n d) * 32⁻¹ : ℝ) : EReal)
    ∧ logitR (fun d => (h d : EReal)) (fun n d => (keys n d : EReal)) n = (((∑ d, h d * keys n d) * 32⁻¹ : ℝ) : EReal) := by
  have h32 : ((32 : ℝ) : EReal) ≠ 0 := by exact_mod_cast (by norm_num : (32 : ℝ) ≠ 0)
  unfold logitK logitR
  simp only [width_eq, Ideal.div, if_neg h32]
  constructor
  · rw [Finset.sum_mul, coe_sum]
    refine Finset.sum_congr rfl fun d _ => ?_
    rw [EReal.coe_mul, EReal.coe_mul, EReal.coe_inv, mul_assoc]
  · rw [EReal.coe_mul, EReal.coe_inv, coe_sum]
    simp only [EReal.coe_mul]

/-- A weighted product of two composed maps, moved inside: the weight a nonnegative real, the operands real, the offset any extended reals. -/
theorem compose (w : ℝ) (hw : 0 ≤ w) (a : Fin 1024 → ℝ) (wi : Fin 64 → Fin 1024 → ℝ) (W : Fin 64 → ℝ) (b : Fin 64 → EReal) :
    (w : EReal) * ((∑ d, (a d : EReal) * ∑ e, (W e : EReal) * (wi e d : EReal)) + ∑ e, (W e : EReal) * b e)
      = ∑ e, ((w : EReal) * ((∑ d, (a d : EReal) * (wi e d : EReal)) + b e)) * (W e : EReal) := by
  have hsum : ∀ (s : Finset (Fin 64)) (f : Fin 64 → EReal), (w : EReal) * ∑ e ∈ s, f e = ∑ e ∈ s, (w : EReal) * f e := by
    intro s f
    induction s using Finset.cons_induction with
    | empty => simp
    | cons e s he ih => rw [Finset.sum_cons, Finset.sum_cons, mul_add_nonneg w hw, ih]
  have hterm : ∀ e, ((w : EReal) * ((∑ d, (a d : EReal) * (wi e d : EReal)) + b e)) * (W e : EReal)
      = ((w * (W e * ∑ d, a d * wi e d) : ℝ) : EReal) + (w : EReal) * ((W e : EReal) * b e) := by
    intro e
    have hr : (∑ d, (a d : EReal) * (wi e d : EReal)) = ((∑ d, a d * wi e d : ℝ) : EReal) := by
      rw [coe_sum]; simp only [EReal.coe_mul]
    rw [hr, mul_assoc, mul_comm _ (W e : EReal), mul_add_real, mul_add_nonneg w hw, ← EReal.coe_mul]
  have hl : (∑ d, (a d : EReal) * ∑ e, (W e : EReal) * (wi e d : EReal)) = ((∑ d, a d * ∑ e, W e * wi e d : ℝ) : EReal) := by
    rw [coe_sum]
    refine Finset.sum_congr rfl fun d _ => ?_
    rw [EReal.coe_mul, coe_sum]
    simp only [EReal.coe_mul]
  have hreal : w * (∑ d, a d * ∑ e, W e * wi e d) = ∑ e, w * (W e * ∑ d, a d * wi e d) := by
    simp only [Finset.mul_sum]
    rw [Finset.sum_comm]
    exact Finset.sum_congr rfl fun e _ => Finset.sum_congr rfl fun d _ => by ring
  rw [Finset.sum_congr rfl fun e _ => hterm e, Finset.sum_add_distrib, ← hsum, hl, mul_add_nonneg w hw, ← coe_sum, ← EReal.coe_mul, hreal]

/-- The two gate inputs are equal on real hidden states, keys and input weights, whatever the biases. -/
theorem gx_eq (hh : ∀ d, ∃ x : ℝ, h d = x) (hk : ∀ n d, ∃ x : ℝ, keys n d = x) (hwi : ∀ e d, ∃ x : ℝ, wi e d = x)
    (hw : ∀ g e, ∃ x : ℝ, wih g e = x) (n : Fin 8) (g : Fin 192) :
    gxK h keys wi bi wih bih n g = gxR h keys wi bi wih bih n g := by
  choose h' eh using hh
  choose keys' ek using hk
  choose wi' ewi using hwi
  choose w' ew using hw
  obtain rfl : h = fun d => (h' d : EReal) := funext eh
  obtain rfl : keys = fun n d => (keys' n d : EReal) := funext fun n => funext (ek n)
  have hK : logitK (fun d => (h' d : EReal)) (fun n d => (keys' n d : EReal)) = fun n => (((∑ d, h' d * keys' n d) * 32⁻¹ : ℝ) : EReal) :=
    funext fun n => (logit_eq h' keys' n).1
  have hR : logitR (fun d => (h' d : EReal)) (fun n d => (keys' n d : EReal)) = fun n => (((∑ d, h' d * keys' n d) * 32⁻¹ : ℝ) : EReal) :=
    funext fun n => (logit_eq h' keys' n).2
  unfold gxK gxR
  rw [hK, hR]
  obtain ⟨w, hw0, ewt⟩ := soft_real (fun n => (∑ d, h' d * keys' n d) * 32⁻¹) n
  rw [ewt]
  congr 1
  simp only [ewi, ew]
  exact compose w hw0 h' wi' (w' g) bi

end Gates

end Cert.Spec

end
-- ==== Proof.KPay.lean ====
/- The payloads of one grid point at the ideal values, read at an index. -/
module

public import proofs.«01_k».proof.Proof.KFrame
public import proofs.«01_k».proof.Proof.Spec
public import Idealize.ShloMosaic.Lib.Claim
public import Idealize.ShloMosaic.Lib.Pointwise
public import Idealize.ShloMosaic.Lib.VecWindow
public import Idealize.ShloMosaic.Lib.LayoutPointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

/-! ## The columns -/

/-- The padded column of gate row `q`. -/
def padCol (q : Fin 192) : Fin 384 := ⟨128 * (q.val / 64) + q.val % 64, by have := q.isLt; omega⟩

/-- The same column among the composed weights' 392. -/
def preCol (q : Fin 192) : Fin 392 := ⟨128 * (q.val / 64) + q.val % 64, by have := q.isLt; omega⟩

/-- The column of key `n` there. -/
def keyCol (n : Fin 8) : Fin 392 := ⟨384 + n.val, by have := n.isLt; omega⟩

/-- A column of the 192 is a component of one of three gates. -/
theorem col_cases (q : Fin 192) : ∃ (g : Fin 3) (d : Fin 64), q = Spec.col g d :=
  ⟨⟨q.val / 64, by have := q.isLt; omega⟩, ⟨q.val % 64, Nat.mod_lt _ (by decide)⟩, Fin.ext (by show q.val = 64 * (q.val / 64) + q.val % 64; omega)⟩

/-- Where the padded layout holds a component of a gate. -/
theorem padCol_col (g : Fin 3) (d : Fin 64) :
    padCol (Spec.col g d) = ⟨128 * g.val + d.val, by have := g.isLt; have := d.isLt; omega⟩ := Fin.ext (by
  have := d.isLt
  show 128 * ((64 * g.val + d.val) / 64) + (64 * g.val + d.val) % 64 = 128 * g.val + d.val; omega)

/-- Where the combined weights hold a component of a gate. -/
theorem preCol_col (g : Fin 3) (d : Fin 64) :
    preCol (Spec.col g d) = ⟨128 * g.val + d.val, by have := g.isLt; have := d.isLt; omega⟩ := Fin.ext (by
  have := d.isLt
  show 128 * ((64 * g.val + d.val) / 64) + (64 * g.val + d.val) % 64 = 128 * g.val + d.val; omega)

/-! ## The payloads -/

/-- A step of the kernel is a step of the recurrence, row by row. -/
theorem pay1_apply (acc : Vec Ideal S128x64 .f32) (g : Vec Ideal S1x128x384 .f32) (w : Vec Ideal S64x384 .bf16) (b : Vec Ideal S1x384 .f32)
    (r : Fin 128) (d : Fin 64) :
    k0_pay1 acc g w b (ix2 r d)
      = Spec.next (fun q => g (ix3 (0 : Fin 1) r (padCol q))) (fun q e => w (ix2 e (padCol q))) (fun q => b (ix2 (0 : Fin 1) (padCol q)))
          (fun e => acc (ix2 r e)) d := by
  have e0 : padCol (Spec.col 0 d) = ⟨d.val, by have := d.isLt; omega⟩ := (padCol_col 0 d).trans (Fin.ext (by show 128 * 0 + d.val = d.val; omega))
  have e1 : padCol (Spec.col 1 d) = ⟨128 + d.val, by have := d.isLt; omega⟩ := padCol_col 1 d
  have e2 : padCol (Spec.col 2 d) = ⟨256 + d.val, by have := d.isLt; omega⟩ := padCol_col 2 d
  unfold k0_pay1
  pointwise
  rw [Spec.cell_eq]
  unfold Spec.next Spec.gh
  simp only [e0, e1, e2]

/-- A row of the block against a column of the composed weights. -/
def mm (x : Vec Ideal S16x64x1024 .f32) (w : Vec Ideal S1024x392 .bf16) (b : Fin 16) (k : Fin 64) (q : Fin 392) : EReal :=
  ∑ d : Fin 1024, x (ix3 b k d) * w (ix2 d q)

/-- The point's one product, at a row and a column. -/
theorem pay4_apply (x : Vec Ideal S16x64x1024 .f32) (w : Vec Ideal S1024x392 .bf16) (j : Fin 1024) (q : Fin 392) (b : Fin 16) (k : Fin 64)
    (h : j.val = b.val * 64 + k.val) : k0_pay4 x w (ix2 j q) = mm x w b k q := by
  have := k.isLt
  have hb : (⟨j.val / 64, by have := j.isLt; omega⟩ : Fin 16) = b := Fin.ext (by show j.val / 64 = b.val; omega)
  have hk : (⟨j.val % 64, by omega⟩ : Fin 64) = k := Fin.ext (by show j.val % 64 = k.val; omega)
  unfold k0_pay4
  pointwise
  exact Finset.sum_congr rfl fun d _ => congrArg₂ (fun a e => x (ix3 a e d) * w (ix2 d q)) hb hk

/-- The point's routing weights: a softmax of the product's last eight columns. -/
theorem pay5_apply (x : Vec Ideal S16x64x1024 .f32) (w : Vec Ideal S1024x392 .bf16) (b : Fin 16) (k : Fin 64) (n : Fin 8) :
    k0_pay5 x w (ix3 b k n) = Spec.soft (fun n => mm x w b k (keyCol n)) n := by
  have h4 : ∀ q, k0_pay4 x w (ix2 (⟨b.val * 64 + k.val, by have := b.isLt; have := k.isLt; omega⟩ : Fin 1024) q) = mm x w b k q :=
    fun q => pay4_apply x w _ q b k rfl
  unfold k0_pay5
  pointwise
  simp only [h4, Spec.least_eq]
  rfl

/-- The gate inputs of gate 0, at an index. -/
theorem pay6_apply (x : Vec Ideal S16x64x1024 .f32) (w : Vec Ideal S1024x392 .bf16) (u v : Vec Ideal S1x64 .f32) (k : Fin 64) (r : Fin 128) (d : Fin 64) :
    k0_pay6 x w u v (ix3 k r d)
      = k0_pay5 x w (ix3 (⟨r.val / 8, by have := r.isLt; omega⟩ : Fin 16) k (⟨r.val % 8, Nat.mod_lt _ (by decide)⟩ : Fin 8))
          * (mm x w ⟨r.val / 8, by have := r.isLt; omega⟩ k (preCol (Spec.col 0 d)) + u (ix2 (0 : Fin 1) d)) + v (ix2 (0 : Fin 1) d) := by
  have e0 : preCol (Spec.col 0 d) = ⟨d.val, by have := d.isLt; omega⟩ := (preCol_col 0 d).trans (Fin.ext (by show 128 * 0 + d.val = d.val; omega))
  unfold k0_pay6
  pointwise
  rw [pay4_apply x w _ _ ⟨r.val / 8, by have := r.isLt; omega⟩ k rfl, e0]

/-- The gate inputs of gate 1, at an index. -/
theorem pay9_apply (x : Vec Ideal S16x64x1024 .f32) (w : Vec Ideal S1024x392 .bf16) (p : FVec Ideal S16x64x8 .f32) (u v : Vec Ideal S1x64 .f32) (k : Fin 64) (r : Fin 128) (d : Fin 64) :
    k0_pay9 p (k0_pay7 x w) (k0_pay8 u) v (ix3 k r d)
      = p (ix3 (⟨r.val / 8, by have := r.isLt; omega⟩ : Fin 16) k (⟨r.val % 8, Nat.mod_lt _ (by decide)⟩ : Fin 8))
          * (mm x w ⟨r.val / 8, by have := r.isLt; omega⟩ k (preCol (Spec.col 1 d)) + u (ix2 (0 : Fin 1) d)) + v (ix2 (0 : Fin 1) d) := by
  have e1 : preCol (Spec.col 1 d) = ⟨128 + d.val, by have := d.isLt; omega⟩ := preCol_col 1 d
  unfold k0_pay9 k0_pay7 k0_pay8
  pointwise
  rw [pay4_apply x w _ _ ⟨r.val / 8, by have := r.isLt; omega⟩ k rfl, e1]

/-- The gate inputs of gate 2, at an index. -/
theorem pay10_apply (x : Vec Ideal S16x64x1024 .f32) (w : Vec Ideal S1024x392 .bf16) (p : FVec Ideal S16x64x8 .f32) (u v : Vec Ideal S1x64 .f32) (k : Fin 64) (r : Fin 128) (d : Fin 64) :
    k0_pay10 (k0_pay4 x w) p u v (ix3 k r d)
      = p (ix3 (⟨r.val / 8, by have := r.isLt; omega⟩ : Fin 16) k (⟨r.val % 8, Nat.mod_lt _ (by decide)⟩ : Fin 8))
          * (mm x w ⟨r.val / 8, by have := r.isLt; omega⟩ k (preCol (Spec.col 2 d)) + u (ix2 (0 : Fin 1) d)) + v (ix2 (0 : Fin 1) d) := by
  have e2 : preCol (Spec.col 2 d) = ⟨256 + d.val, by have := d.isLt; omega⟩ := preCol_col 2 d
  unfold k0_pay10
  pointwise
  rw [pay4_apply x w _ _ ⟨r.val / 8, by have := r.isLt; omega⟩ k rfl, e2]

/-- The gate block at a gate column: the routing weight on the composed product with its bias, and the input bias. -/
theorem gates_apply (x1 : Vec Ideal S16x64x1024 .f32) (x2 : Vec Ideal S1024x392 .bf16) (x3 x4 : Vec Ideal S1x384 .f32) (k : Fin 64) (r : Fin 128) (q : Fin 192) :
    gates x1 x2 x3 x4 (ix3 k r (padCol q))
      = Spec.soft (fun n => mm x1 x2 ⟨r.val / 8, by have := r.isLt; omega⟩ k (keyCol n)) ⟨r.val % 8, Nat.mod_lt _ (by decide)⟩
          * (mm x1 x2 ⟨r.val / 8, by have := r.isLt; omega⟩ k (preCol q) + x3 (ix2 (0 : Fin 1) (padCol q))) + x4 (ix2 (0 : Fin 1) (padCol q)) := by
  obtain ⟨g, d, rfl⟩ := col_cases q
  have hd : d.val < 64 := d.isLt
  have hv : (padCol (Spec.col g d)).val = 128 * g.val + d.val := congrArg Fin.val (padCol_col g d)
  have hm : (⟨(padCol (Spec.col g d)).val % 64, Nat.mod_lt _ (by decide)⟩ : Fin 64) = d := Fin.ext (by show (padCol (Spec.col g d)).val % 64 = d.val; rw [hv]; omega)
  have hrow : ∀ u : Vec Ideal S1x384 .f32, gateRow g u (ix2 (0 : Fin 1) d) = u (ix2 (0 : Fin 1) (padCol (Spec.col g d))) := fun u => by
    rw [padCol_col]; rfl
  unfold gates
  show (if (padCol (Spec.col g d)).val < 128 then k0_pay6 x1 x2 (gateRow 0 x3) (gateRow 0 x4) (ix3 k r (⟨(padCol (Spec.col g d)).val % 64, Nat.mod_lt _ (by decide)⟩ : Fin 64))
    else if (padCol (Spec.col g d)).val < 256 then k0_pay9 (k0_pay5 x1 x2) (k0_pay7 x1 x2) (k0_pay8 (gateRow 1 x3)) (gateRow 1 x4) (ix3 k r (⟨(padCol (Spec.col g d)).val % 64, Nat.mod_lt _ (by decide)⟩ : Fin 64))
    else k0_pay10 (k0_pay4 x1 x2) (k0_pay5 x1 x2) (gateRow 2 x3) (gateRow 2 x4) (ix3 k r (⟨(padCol (Spec.col g d)).val % 64, Nat.mod_lt _ (by decide)⟩ : Fin 64))) = _
  rw [hm, ← hrow x3, ← hrow x4, ← pay5_apply]
  fin_cases g
  · rw [if_pos (by rw [hv]; show 128 * 0 + d.val < 128; omega), pay6_apply]; rfl
  · rw [if_neg (by rw [hv]; show ¬ 128 * 1 + d.val < 128; omega), if_pos (by rw [hv]; show 128 * 1 + d.val < 256; omega), pay9_apply]; rfl
  · rw [if_neg (by rw [hv]; show ¬ 128 * 2 + d.val < 128; omega), if_neg (by rw [hv]; show ¬ 128 * 2 + d.val < 256; omega), pay10_apply]; rfl

end Cert.KernelIdeal.Hand

end
-- ==== Proof.KHost.lean ====
/- The operands the kernel's host code makes for the region, at the ideal values, read at an index from the arguments. -/
module

public import proofs.«01_k».proof.Proof.KPay
public import proofs.«01_k».proof.Proof.Spec
public import Idealize.ShloMosaic.Lib.Claim
public import Idealize.ShloMosaic.Lib.StableHlo.ReadAt
public import Idealize.ShloMosaic.Lib.Pointwise
public import Idealize.ShloMosaic.Lib.VecWindow
public import Idealize.ShloMosaic.Lib.LayoutPointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable (m : (ℓ : Loc nD τ sig) → Buf (Elt Ideal) ℓ)

/-! The operands the kernel's grid reads, each entry told by the arguments. -/

/-- One entry of the hidden sequence. -/
def hIn (c : Dev nD) (b : Fin 16) (s : Fin 2048) (d : Fin 1024) : EReal :=
  (m ((c : Thread nD τ).loc main_arg0) : Vec Ideal S16x2048x1024 .f32) (ix3 b s d)

/-- One entry of the entity keys. -/
def keysIn (c : Dev nD) (n : Fin 8) (d : Fin 1024) : EReal :=
  (m ((c : Thread nD τ).loc main_arg1) : Vec Ideal S8x1024 .f32) (ix2 n d)

/-- One entry of the input projection's weights. -/
def wiIn (c : Dev nD) (e : Fin 64) (d : Fin 1024) : EReal :=
  (m ((c : Thread nD τ).loc main_arg2) : Vec Ideal S64x1024 .f32) (ix2 e d)

/-- One entry of the input projection's bias. -/
def biIn (c : Dev nD) (e : Fin 64) : EReal :=
  (m ((c : Thread nD τ).loc main_arg3) : Vec Ideal S64 .f32) (ix1 e)

/-- One entry of the cell's input weights. -/
def wihIn (c : Dev nD) (q : Fin 192) (e : Fin 64) : EReal :=
  (m ((c : Thread nD τ).loc main_arg4) : Vec Ideal S192x64 .f32) (ix2 q e)

/-- One entry of the cell's state weights. -/
def whhIn (c : Dev nD) (q : Fin 192) (e : Fin 64) : EReal :=
  (m ((c : Thread nD τ).loc main_arg5) : Vec Ideal S192x64 .f32) (ix2 q e)

/-- One entry of the cell's input bias. -/
def bihIn (c : Dev nD) (q : Fin 192) : EReal :=
  (m ((c : Thread nD τ).loc main_arg6) : Vec Ideal S192 .f32) (ix1 q)

/-- One entry of the cell's state bias. -/
def bhhIn (c : Dev nD) (q : Fin 192) : EReal :=
  (m ((c : Thread nD τ).loc main_arg7) : Vec Ideal S192 .f32) (ix1 q)

/-- One entry of the initial entities. -/
def startIn (c : Dev nD) (n : Fin 8) (d : Fin 64) : EReal :=
  (m ((c : Thread nD τ).loc main_arg8) : Vec Ideal S8x64 .f32) (ix2 n d)

/-- Gate 0's columns of the state weights, transposed. -/
theorem whh_0 (c : Dev nD) (e : Fin 64) (d : Fin 64) :
    (V m c main_v38 : Vec Ideal S64x384 .bf16) (ix2 e (⟨d.val, by have := d.isLt; omega⟩ : Fin 384)) = whhIn m c (⟨d.val, by have := d.isLt; omega⟩ : Fin 192) e := by
  have hd : d.val < 64 := d.isLt
  unfold V V0
  after_reads_at
  repeat' split
  all_goals first | omega | skip
  all_goals after_reads_at
  all_goals exact congrArg (fun a => whhIn m c a e) (Fin.ext (by dsimp only))

/-- Gate 1's columns of the state weights, transposed. -/
theorem whh_1 (c : Dev nD) (e : Fin 64) (d : Fin 64) :
    (V m c main_v38 : Vec Ideal S64x384 .bf16) (ix2 e (⟨128 + d.val, by have := d.isLt; omega⟩ : Fin 384)) = whhIn m c (⟨64 + d.val, by have := d.isLt; omega⟩ : Fin 192) e := by
  have hd : d.val < 64 := d.isLt
  unfold V V0
  after_reads_at
  repeat' split
  all_goals first | omega | skip
  all_goals after_reads_at
  all_goals exact congrArg (fun a => whhIn m c a e) (Fin.ext (by dsimp only; omega))

/-- Gate 2's columns of the state weights, transposed. -/
theorem whh_2 (c : Dev nD) (e : Fin 64) (d : Fin 64) :
    (V m c main_v38 : Vec Ideal S64x384 .bf16) (ix2 e (⟨256 + d.val, by have := d.isLt; omega⟩ : Fin 384)) = whhIn m c (⟨128 + d.val, by have := d.isLt; omega⟩ : Fin 192) e := by
  have hd : d.val < 64 := d.isLt
  unfold V V0
  after_reads_at
  repeat' split
  all_goals first | omega | skip
  all_goals after_reads_at
  all_goals exact congrArg (fun a => whhIn m c a e) (Fin.ext (by dsimp only; omega))

/-- Every used column of the state weights, transposed. -/
theorem whh_apply (c : Dev nD) (e : Fin 64) (q : Fin 192) :
    (V m c main_v38 : Vec Ideal S64x384 .bf16) (ix2 e (padCol q)) = whhIn m c q e := by
  obtain ⟨g, d, rfl⟩ := col_cases q
  rw [padCol_col]
  match g with
  | 0 => exact (congrArg (fun a => (V m c main_v38 : Vec Ideal S64x384 .bf16) (ix2 e a)) (Fin.ext (by simp [Spec.col]))).trans ((whh_0 m c e d).trans (congrArg (fun q : Fin 192 => whhIn m c q e) (Fin.ext (by simp [Spec.col]))))
  | 1 => exact whh_1 m c e d
  | 2 => exact whh_2 m c e d

/-- Gate 0's columns of the state bias. -/
theorem bhh_0 (c : Dev nD) (d : Fin 64) :
    (V m c main_v31 : Vec Ideal S1x384 .f32) (ix2 (0 : Fin 1) (⟨d.val, by have := d.isLt; omega⟩ : Fin 384)) = bhhIn m c (⟨d.val, by have := d.isLt; omega⟩ : Fin 192) := by
  have hd : d.val < 64 := d.isLt
  unfold V V0
  after_reads_at
  repeat' split
  all_goals first | omega | skip
  all_goals after_reads_at
  all_goals exact congrArg (fun a => bhhIn m c a) (Fin.ext (by dsimp only))

/-- Gate 1's columns of the state bias. -/
theorem bhh_1 (c : Dev nD) (d : Fin 64) :
    (V m c main_v31 : Vec Ideal S1x384 .f32) (ix2 (0 : Fin 1) (⟨128 + d.val, by have := d.isLt; omega⟩ : Fin 384)) = bhhIn m c (⟨64 + d.val, by have := d.isLt; omega⟩ : Fin 192) := by
  have hd : d.val < 64 := d.isLt
  unfold V V0
  after_reads_at
  repeat' split
  all_goals first | omega | skip
  all_goals after_reads_at
  all_goals exact congrArg (fun a => bhhIn m c a) (Fin.ext (by dsimp only; omega))

/-- Gate 2's columns of the state bias. -/
theorem bhh_2 (c : Dev nD) (d : Fin 64) :
    (V m c main_v31 : Vec Ideal S1x384 .f32) (ix2 (0 : Fin 1) (⟨256 + d.val, by have := d.isLt; omega⟩ : Fin 384)) = bhhIn m c (⟨128 + d.val, by have := d.isLt; omega⟩ : Fin 192) := by
  have hd : d.val < 64 := d.isLt
  unfold V V0
  after_reads_at
  repeat' split
  all_goals first | omega | skip
  all_goals after_reads_at
  all_goals exact congrArg (fun a => bhhIn m c a) (Fin.ext (by dsimp only; omega))

/-- Every used column of the state bias. -/
theorem bhh_apply (c : Dev nD) (q : Fin 192) :
    (V m c main_v31 : Vec Ideal S1x384 .f32) (ix2 (0 : Fin 1) (padCol q)) = bhhIn m c q := by
  obtain ⟨g, d, rfl⟩ := col_cases q
  rw [padCol_col]
  match g with
  | 0 => exact (congrArg (fun a => (V m c main_v31 : Vec Ideal S1x384 .f32) (ix2 (0 : Fin 1) a)) (Fin.ext (by simp [Spec.col]))).trans ((bhh_0 m c d).trans (congrArg (fun q : Fin 192 => bhhIn m c q) (Fin.ext (by simp [Spec.col]))))
  | 1 => exact bhh_1 m c d
  | 2 => exact bhh_2 m c d

/-- Gate 0's columns of the input bias. -/
theorem bih_0 (c : Dev nD) (d : Fin 64) :
    (V m c main_v25 : Vec Ideal S1x384 .f32) (ix2 (0 : Fin 1) (⟨d.val, by have := d.isLt; omega⟩ : Fin 384)) = bihIn m c (⟨d.val, by have := d.isLt; omega⟩ : Fin 192) := by
  have hd : d.val < 64 := d.isLt
  unfold V V0
  after_reads_at
  repeat' split
  all_goals first | omega | skip
  all_goals after_reads_at
  all_goals exact congrArg (fun a => bihIn m c a) (Fin.ext (by dsimp only))

/-- Gate 1's columns of the input bias. -/
theorem bih_1 (c : Dev nD) (d : Fin 64) :
    (V m c main_v25 : Vec Ideal S1x384 .f32) (ix2 (0 : Fin 1) (⟨128 + d.val, by have := d.isLt; omega⟩ : Fin 384)) = bihIn m c (⟨64 + d.val, by have := d.isLt; omega⟩ : Fin 192) := by
  have hd : d.val < 64 := d.isLt
  unfold V V0
  after_reads_at
  repeat' split
  all_goals first | omega | skip
  all_goals after_reads_at
  all_goals exact congrArg (fun a => bihIn m c a) (Fin.ext (by dsimp only; omega))

/-- Gate 2's columns of the input bias. -/
theorem bih_2 (c : Dev nD) (d : Fin 64) :
    (V m c main_v25 : Vec Ideal S1x384 .f32) (ix2 (0 : Fin 1) (⟨256 + d.val, by have := d.isLt; omega⟩ : Fin 384)) = bihIn m c (⟨128 + d.val, by have := d.isLt; omega⟩ : Fin 192) := by
  have hd : d.val < 64 := d.isLt
  unfold V V0
  after_reads_at
  repeat' split
  all_goals first | omega | skip
  all_goals after_reads_at
  all_goals exact congrArg (fun a => bihIn m c a) (Fin.ext (by dsimp only; omega))

/-- Every used column of the input bias. -/
theorem bih_apply (c : Dev nD) (q : Fin 192) :
    (V m c main_v25 : Vec Ideal S1x384 .f32) (ix2 (0 : Fin 1) (padCol q)) = bihIn m c q := by
  obtain ⟨g, d, rfl⟩ := col_cases q
  rw [padCol_col]
  match g with
  | 0 => exact (congrArg (fun a => (V m c main_v25 : Vec Ideal S1x384 .f32) (ix2 (0 : Fin 1) a)) (Fin.ext (by simp [Spec.col]))).trans ((bih_0 m c d).trans (congrArg (fun q : Fin 192 => bihIn m c q) (Fin.ext (by simp [Spec.col]))))
  | 1 => exact bih_1 m c d
  | 2 => exact bih_2 m c d

/-- Gate 0's columns of the projection bias carried through the input weights. -/
theorem biasProd_0 (c : Dev nD) (d : Fin 64) :
    (V m c main_v19 : Vec Ideal S1x384 .f32) (ix2 (0 : Fin 1) (⟨d.val, by have := d.isLt; omega⟩ : Fin 384)) = ∑ j, wihIn m c (⟨d.val, by have := d.isLt; omega⟩ : Fin 192) j * biIn m c j := by
  have hd : d.val < 64 := d.isLt
  unfold V V0
  after_reads_at
  repeat' split
  all_goals first | omega | skip
  all_goals after_reads_at
  all_goals exact Finset.sum_congr rfl fun x _ => congrArg (fun a => wihIn m c a x * biIn m c x) (Fin.ext (by dsimp only))

/-- Gate 1's columns of the projection bias carried through the input weights. -/
theorem biasProd_1 (c : Dev nD) (d : Fin 64) :
    (V m c main_v19 : Vec Ideal S1x384 .f32) (ix2 (0 : Fin 1) (⟨128 + d.val, by have := d.isLt; omega⟩ : Fin 384)) = ∑ j, wihIn m c (⟨64 + d.val, by have := d.isLt; omega⟩ : Fin 192) j * biIn m c j := by
  have hd : d.val < 64 := d.isLt
  unfold V V0
  after_reads_at
  repeat' split
  all_goals first | omega | skip
  all_goals after_reads_at
  all_goals exact Finset.sum_congr rfl fun x _ => congrArg (fun a => wihIn m c a x * biIn m c x) (Fin.ext (by dsimp only; omega))

/-- Gate 2's columns of the projection bias carried through the input weights. -/
theorem biasProd_2 (c : Dev nD) (d : Fin 64) :
    (V m c main_v19 : Vec Ideal S1x384 .f32) (ix2 (0 : Fin 1) (⟨256 + d.val, by have := d.isLt; omega⟩ : Fin 384)) = ∑ j, wihIn m c (⟨128 + d.val, by have := d.isLt; omega⟩ : Fin 192) j * biIn m c j := by
  have hd : d.val < 64 := d.isLt
  unfold V V0
  after_reads_at
  repeat' split
  all_goals first | omega | skip
  all_goals after_reads_at
  all_goals exact Finset.sum_congr rfl fun x _ => congrArg (fun a => wihIn m c a x * biIn m c x) (Fin.ext (by dsimp only; omega))

/-- Every used column of the projection bias carried through the input weights. -/
theorem biasProd_apply (c : Dev nD) (q : Fin 192) :
    (V m c main_v19 : Vec Ideal S1x384 .f32) (ix2 (0 : Fin 1) (padCol q)) = ∑ j, wihIn m c q j * biIn m c j := by
  obtain ⟨g, d, rfl⟩ := col_cases q
  rw [padCol_col]
  match g with
  | 0 => exact (congrArg (fun a => (V m c main_v19 : Vec Ideal S1x384 .f32) (ix2 (0 : Fin 1) a)) (Fin.ext (by simp [Spec.col]))).trans ((biasProd_0 m c d).trans (congrArg (fun q : Fin 192 => ∑ j, wihIn m c q j * biIn m c j) (Fin.ext (by simp [Spec.col]))))
  | 1 => exact biasProd_1 m c d
  | 2 => exact biasProd_2 m c d

/-- Gate 0's columns of the projection composed with the input weights. -/
theorem wprod_0 (c : Dev nD) (e : Fin 1024) (d : Fin 64) :
    (V m c main_v12 : Vec Ideal S1024x392 .bf16) (ix2 e (⟨d.val, by have := d.isLt; omega⟩ : Fin 392)) = ∑ j, wihIn m c (⟨d.val, by have := d.isLt; omega⟩ : Fin 192) j * wiIn m c j e := by
  have hd : d.val < 64 := d.isLt
  unfold V V0
  after_reads_at
  repeat' split
  all_goals first | omega | skip
  all_goals after_reads_at
  repeat' split
  all_goals first | omega | skip
  all_goals after_reads_at
  all_goals exact Finset.sum_congr rfl fun x _ => congrArg (fun a => wihIn m c a x * wiIn m c x e) (Fin.ext (by dsimp only))

/-- Gate 1's columns of the projection composed with the input weights. -/
theorem wprod_1 (c : Dev nD) (e : Fin 1024) (d : Fin 64) :
    (V m c main_v12 : Vec Ideal S1024x392 .bf16) (ix2 e (⟨128 + d.val, by have := d.isLt; omega⟩ : Fin 392)) = ∑ j, wihIn m c (⟨64 + d.val, by have := d.isLt; omega⟩ : Fin 192) j * wiIn m c j e := by
  have hd : d.val < 64 := d.isLt
  unfold V V0
  after_reads_at
  repeat' split
  all_goals first | omega | skip
  all_goals after_reads_at
  repeat' split
  all_goals first | omega | skip
  all_goals after_reads_at
  all_goals exact Finset.sum_congr rfl fun x _ => congrArg (fun a => wihIn m c a x * wiIn m c x e) (Fin.ext (by dsimp only; omega))

/-- Gate 2's columns of the projection composed with the input weights. -/
theorem wprod_2 (c : Dev nD) (e : Fin 1024) (d : Fin 64) :
    (V m c main_v12 : Vec Ideal S1024x392 .bf16) (ix2 e (⟨256 + d.val, by have := d.isLt; omega⟩ : Fin 392)) = ∑ j, wihIn m c (⟨128 + d.val, by have := d.isLt; omega⟩ : Fin 192) j * wiIn m c j e := by
  have hd : d.val < 64 := d.isLt
  unfold V V0
  after_reads_at
  repeat' split
  all_goals first | omega | skip
  all_goals after_reads_at
  repeat' split
  all_goals first | omega | skip
  all_goals after_reads_at
  all_goals exact Finset.sum_congr rfl fun x _ => congrArg (fun a => wihIn m c a x * wiIn m c x e) (Fin.ext (by dsimp only; omega))

/-- Every used column of the projection composed with the input weights. -/
theorem wprod_apply (c : Dev nD) (e : Fin 1024) (q : Fin 192) :
    (V m c main_v12 : Vec Ideal S1024x392 .bf16) (ix2 e (preCol q)) = ∑ j, wihIn m c q j * wiIn m c j e := by
  obtain ⟨g, d, rfl⟩ := col_cases q
  rw [preCol_col]
  match g with
  | 0 => exact (congrArg (fun a => (V m c main_v12 : Vec Ideal S1024x392 .bf16) (ix2 e a)) (Fin.ext (by simp [Spec.col]))).trans ((wprod_0 m c e d).trans (congrArg (fun q : Fin 192 => ∑ j, wihIn m c q j * wiIn m c j e) (Fin.ext (by simp [Spec.col]))))
  | 1 => exact wprod_1 m c e d
  | 2 => exact wprod_2 m c e d

/-- The key columns of the fused operand hold the keys divided by the square root of the width. -/
theorem keys_apply (c : Dev nD) (e : Fin 1024) (n : Fin 8) :
    (V m c main_v12 : Vec Ideal S1024x392 .bf16) (ix2 e (keyCol n)) = Ideal.div (keysIn m c n e) Spec.width := by
  unfold V V0 keyCol
  after_reads_at
  after_reads_at
  rfl

end Cert.KernelIdeal.Hand

end
-- ==== Proof.KValue.lean ====
/- The kernel's results at the ideal values: what each point's windows read, what the scratches hold before each point, and the array the points' blocks make up. -/
module

public import proofs.«01_k».proof.Proof.KHost
public import proofs.«01_k».proof.Proof.Spec
public import Idealize.ShloMosaic.Lib.Claim
public import Idealize.ShloMosaic.Lib.Pointwise
public import Idealize.ShloMosaic.Lib.VecWindow
public import Idealize.ShloMosaic.Lib.LayoutPointwise

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable (m : (ℓ : Loc nD τ sig) → Buf (Elt Ideal) ℓ) (ρ : Dev nD → PrngReg)

/-! ## The first state -/

/-- The first state holds the initial entities once for each batch row. -/
theorem pay11_apply (e : Vec Ideal S8x64 .f32) (r : Fin 128) (d : Fin 64) :
    k0_pay11 e (ix2 r d) = e (ix2 (⟨r.val % 8, Nat.mod_lt _ (by decide)⟩ : Fin 8) d) := by
  unfold k0_pay11
  rw [shapeCast_self]
  exact concatenate_replicate_apply (t := S128x64) (s₁ := S8x64) (0 : Fin 2) 16 e
    concatenates_S8x64_S8x64_S8x64_S8x64_S8x64_S8x64_S8x64_S8x64_S8x64_S8x64_S8x64_S8x64_S8x64_S8x64_S8x64_S8x64_S128x64_d0
    rfl (ix2 r d) (ix2 (⟨r.val % 8, Nat.mod_lt _ (by decide)⟩ : Fin 8) d) rfl (fun b hb => by
      match b with
      | ⟨0, _⟩ => exact absurd rfl hb
      | ⟨1, _⟩ => rfl)

/-! ## The blocks the grid reads -/

/-- The block of window 0 at a point. -/
theorem index0 : ∀ t : Fin grid0.N, win0_0.index t 0 = 0 ∧ win0_0.index t 1 = t.val ∧ win0_0.index t 2 = 0 := by decide +kernel
/-- The block of window 1 at a point. -/
theorem index1 : ∀ t : Fin grid0.N, win0_1.index t 0 = 0 ∧ win0_1.index t 1 = 0 := by decide +kernel
/-- The block of window 2 at a point. -/
theorem index2 : ∀ t : Fin grid0.N, win0_2.index t 0 = 0 ∧ win0_2.index t 1 = 0 := by decide +kernel
/-- The block of window 3 at a point. -/
theorem index3 : ∀ t : Fin grid0.N, win0_3.index t 0 = 0 ∧ win0_3.index t 1 = 0 := by decide +kernel
/-- The block of window 4 at a point. -/
theorem index4 : ∀ t : Fin grid0.N, win0_4.index t 0 = 0 ∧ win0_4.index t 1 = 0 := by decide +kernel
/-- The block of window 5 at a point. -/
theorem index5 : ∀ t : Fin grid0.N, win0_5.index t 0 = 0 ∧ win0_5.index t 1 = 0 := by decide +kernel
/-- The block of window 6 at a point. -/
theorem index6 : ∀ t : Fin grid0.N, win0_6.index t 0 = 0 ∧ win0_6.index t 1 = 0 := by decide +kernel
/-- The block of window 7 at a point. -/
theorem index7 : ∀ t : Fin grid0.N, win0_7.index t 0 = 0 ∧ win0_7.index t 1 = t.val ∧ win0_7.index t 2 = 0 ∧ win0_7.index t 3 = 0 := by decide +kernel

/-- There are 32 points. -/
theorem points (t : Fin cfg0.N) : t.val < 32 := Nat.lt_of_lt_of_eq t.isLt N_0

/-- Point `t` reads the 64 steps from `64 t` of the hidden sequence. -/
theorem iblk0_apply (c : Dev nD) (t : Fin cfg0.N) (b : Fin 16) (k : Fin 64) (d : Fin 1024) :
    (iblk m c 0 t : Vec Ideal S16x64x1024 .f32) (ix3 b k d)
      = hIn m c b (⟨64 * t.val + k.val, by have := points t; have := k.isLt; omega⟩ : Fin 2048) d := by
  obtain ⟨e0, e1, e2⟩ := index0 t
  have hV := V_main_arg0 m c
  unfold iblk hIn
  rw [View.read_apply]
  show V m c main_arg0 _ = m (c.tc.loc main_arg0) _
  rw [hV]
  congr 1
  funext a
  apply Fin.ext
  match a with
  | ⟨0, _⟩ => show win0_0.index t 0 * 16 + 1 * b.val = b.val; rw [e0]; omega
  | ⟨1, _⟩ => show win0_0.index t 1 * 64 + 1 * k.val = 64 * t.val + k.val; rw [e1]; omega
  | ⟨2, _⟩ => show win0_0.index t 2 * 1024 + 1 * d.val = d.val; rw [e2]; omega

/-- Every other input is read whole at every point. -/
theorem iblk1_eq (c : Dev nD) (t : Fin cfg0.N) : (iblk m c 1 t : Vec Ideal S1024x392 .bf16) = V m c main_v12 := by
  obtain ⟨e0, e1⟩ := index1 t
  funext j
  show V m c main_v12 (((cfg0.win 1).blk t).view.emb j) = V m c main_v12 j
  congr 1
  funext a; apply Fin.ext
  match a with
  | ⟨0, _⟩ => show win0_1.index t 0 * 1024 + 1 * (j 0).val = (j 0).val; omega
  | ⟨1, _⟩ => show win0_1.index t 1 * 392 + 1 * (j 1).val = (j 1).val; omega

/-- Window 2 reads its whole array at every point. -/
theorem iblk2_eq (c : Dev nD) (t : Fin cfg0.N) : (iblk m c 2 t : Vec Ideal S1x384 .f32) = V m c main_v19 := by
  obtain ⟨e0, e1⟩ := index2 t
  funext j
  show V m c main_v19 (((cfg0.win 2).blk t).view.emb j) = V m c main_v19 j
  congr 1
  funext a; apply Fin.ext
  match a with
  | ⟨0, _⟩ => show win0_2.index t 0 * 1 + 1 * (j 0).val = (j 0).val; omega
  | ⟨1, _⟩ => show win0_2.index t 1 * 384 + 1 * (j 1).val = (j 1).val; omega

/-- Window 3 reads its whole array at every point. -/
theorem iblk3_eq (c : Dev nD) (t : Fin cfg0.N) : (iblk m c 3 t : Vec Ideal S1x384 .f32) = V m c main_v25 := by
  obtain ⟨e0, e1⟩ := index3 t
  funext j
  show V m c main_v25 (((cfg0.win 3).blk t).view.emb j) = V m c main_v25 j
  congr 1
  funext a; apply Fin.ext
  match a with
  | ⟨0, _⟩ => show win0_3.index t 0 * 1 + 1 * (j 0).val = (j 0).val; omega
  | ⟨1, _⟩ => show win0_3.index t 1 * 384 + 1 * (j 1).val = (j 1).val; omega

/-- Window 4 reads its whole array at every point. -/
theorem iblk4_eq (c : Dev nD) (t : Fin cfg0.N) : (iblk m c 4 t : Vec Ideal S1x384 .f32) = V m c main_v31 := by
  obtain ⟨e0, e1⟩ := index4 t
  funext j
  show V m c main_v31 (((cfg0.win 4).blk t).view.emb j) = V m c main_v31 j
  congr 1
  funext a; apply Fin.ext
  match a with
  | ⟨0, _⟩ => show win0_4.index t 0 * 1 + 1 * (j 0).val = (j 0).val; omega
  | ⟨1, _⟩ => show win0_4.index t 1 * 384 + 1 * (j 1).val = (j 1).val; omega

/-- Window 5 reads its whole array at every point. -/
theorem iblk5_eq (c : Dev nD) (t : Fin cfg0.N) : (iblk m c 5 t : Vec Ideal S64x384 .bf16) = V m c main_v38 := by
  obtain ⟨e0, e1⟩ := index5 t
  funext j
  show V m c main_v38 (((cfg0.win 5).blk t).view.emb j) = V m c main_v38 j
  congr 1
  funext a; apply Fin.ext
  match a with
  | ⟨0, _⟩ => show win0_5.index t 0 * 64 + 1 * (j 0).val = (j 0).val; omega
  | ⟨1, _⟩ => show win0_5.index t 1 * 384 + 1 * (j 1).val = (j 1).val; omega

/-- Window 6 reads its whole array at every point. -/
theorem iblk6_eq (c : Dev nD) (t : Fin cfg0.N) : (iblk m c 6 t : Vec Ideal S8x64 .f32) = V m c main_arg8 := by
  obtain ⟨e0, e1⟩ := index6 t
  funext j
  show V m c main_arg8 (((cfg0.win 6).blk t).view.emb j) = V m c main_arg8 j
  congr 1
  funext a; apply Fin.ext
  match a with
  | ⟨0, _⟩ => show win0_6.index t 0 * 8 + 1 * (j 0).val = (j 0).val; omega
  | ⟨1, _⟩ => show win0_6.index t 1 * 64 + 1 * (j 1).val = (j 1).val; omega

/-! ## The recurrence -/

/-- The gate inputs of entity `n` of batch row `b` at step `s`, from the arguments. -/
def gxAt (c : Dev nD) (b : Fin 16) (n : Fin 8) (s : ℕ) (q : Fin 192) : EReal :=
  Spec.gxK (fun d => hIn m c b (⟨s % 2048, Nat.mod_lt _ (by decide)⟩ : Fin 2048) d) (keysIn m c) (wiIn m c) (biIn m c) (wihIn m c) (bihIn m c) n q

/-- The state of entity `n` of batch row `b` after `s` steps. -/
def entity (c : Dev nD) (b : Fin 16) (n : Fin 8) (s : ℕ) (d : Fin 64) : EReal :=
  Spec.state (gxAt m c b n) (whhIn m c) (bhhIn m c) (startIn m c n) s d

/-- The gate scratch of a point holds the gate inputs of its 64 steps. -/
theorem gatesAt_apply (c : Dev nD) (t : Fin cfg0.N) (k : Fin 64) (r : Fin 128) (q : Fin 192) :
    gatesAt m c t (ix3 k r (padCol q))
      = gxAt m c ⟨r.val / 8, by have := r.isLt; omega⟩ ⟨r.val % 8, Nat.mod_lt _ (by decide)⟩ (64 * t.val + k.val) q := by
  have ht := points t
  have hk := k.isLt
  have hs : (⟨64 * t.val + k.val, by omega⟩ : Fin 2048) = ⟨(64 * t.val + k.val) % 2048, Nat.mod_lt _ (by decide)⟩ :=
    Fin.ext (Nat.mod_eq_of_lt (by omega)).symm
  have hm : ∀ p : Fin 392, mm (iblk m c 0 t) (iblk m c 1 t) ⟨r.val / 8, by have := r.isLt; omega⟩ k p
      = ∑ d, hIn m c ⟨r.val / 8, by have := r.isLt; omega⟩ (⟨(64 * t.val + k.val) % 2048, Nat.mod_lt _ (by decide)⟩ : Fin 2048) d
          * (V m c main_v12 : Vec Ideal S1024x392 .bf16) (ix2 d p) := fun p =>
    Finset.sum_congr rfl fun d _ => congrArg₂ (fun a b : EReal => a * b) ((iblk0_apply m c t _ k d).trans (congrArg (fun s => hIn m c _ s d) hs))
      (congrFun (iblk1_eq m c t) (ix2 d p))
  have hl : (fun n => mm (iblk m c 0 t) (iblk m c 1 t) ⟨r.val / 8, by have := r.isLt; omega⟩ k (keyCol n))
      = Spec.logitK (fun d => hIn m c ⟨r.val / 8, by have := r.isLt; omega⟩ (⟨(64 * t.val + k.val) % 2048, Nat.mod_lt _ (by decide)⟩ : Fin 2048) d) (keysIn m c) :=
    funext fun n => (hm _).trans (Finset.sum_congr rfl fun d _ => congrArg (fun b : EReal => _ * b) (keys_apply m c d n))
  have hp := (hm (preCol q)).trans (Finset.sum_congr rfl fun d _ => congrArg (fun b : EReal => _ * b) (wprod_apply m c d q))
  have hb := (congrFun (iblk2_eq m c t) (ix2 (0 : Fin 1) (padCol q))).trans (biasProd_apply m c q)
  have hi := (congrFun (iblk3_eq m c t) (ix2 (0 : Fin 1) (padCol q))).trans (bih_apply m c q)
  exact (gates_apply (iblk m c 0 t) (iblk m c 1 t) (iblk m c 2 t) (iblk m c 3 t) k r q).trans
    (congrArg₂ (fun a b : EReal => a + b) (congrArg₂ (fun a b : EReal => a * b) (congrFun (congrArg Spec.soft hl) _)
      (congrArg₂ (fun a b : EReal => a + b) hp hb)) hi)

/-- The state row of an entity through a point's steps. -/
theorem steps_apply (c : Dev nD) (t : Fin cfg0.N) (r : Fin 128)
    (hst : ∀ d, stAt m c t.val (ix2 r d) = entity m c ⟨r.val / 8, by have := r.isLt; omega⟩ ⟨r.val % 8, Nat.mod_lt _ (by decide)⟩ (64 * t.val) d)
    (k : ℕ) (hk : k ≤ 64) (d : Fin 64) :
    steps (gatesAt m c t) (iblk m c 4 t) (iblk m c 5 t) (stAt m c t.val) k (ix2 r d)
      = entity m c ⟨r.val / 8, by have := r.isLt; omega⟩ ⟨r.val % 8, Nat.mod_lt _ (by decide)⟩ (64 * t.val + k) d := by
  induction k generalizing d with
  | zero => exact hst d
  | succ k ih =>
    show k0_pay1 (steps (gatesAt m c t) (iblk m c 4 t) (iblk m c 5 t) (stAt m c t.val) k) (slab (gatesAt m c t) k) (iblk m c 5 t) (iblk m c 4 t) (ix2 r d)
      = Spec.next (gxAt m c ⟨r.val / 8, by have := r.isLt; omega⟩ ⟨r.val % 8, Nat.mod_lt _ (by decide)⟩ (64 * t.val + k)) (whhIn m c) (bhhIn m c)
          (entity m c ⟨r.val / 8, by have := r.isLt; omega⟩ ⟨r.val % 8, Nat.mod_lt _ (by decide)⟩ (64 * t.val + k)) d
    have hs : ∀ q, slab (gatesAt m c t) k (ix3 (0 : Fin 1) r (padCol q))
        = gxAt m c ⟨r.val / 8, by have := r.isLt; omega⟩ ⟨r.val % 8, Nat.mod_lt _ (by decide)⟩ (64 * t.val + k) q := fun q =>
      (congrArg (fun a => gatesAt m c t (ix3 a r (padCol q))) (Fin.ext (Nat.mod_eq_of_lt (by omega)) : (⟨k % 64, Nat.mod_lt _ (by decide)⟩ : Fin 64) = ⟨k, by omega⟩)).trans
        (gatesAt_apply m c t ⟨k, by omega⟩ r q)
    have hw : (fun (q : Fin 192) (e : Fin 64) => (iblk m c 5 t : Vec Ideal S64x384 .bf16) (ix2 e (padCol q))) = whhIn m c :=
      funext fun q => funext fun e => (congrFun (iblk5_eq m c t) (ix2 e (padCol q))).trans (whh_apply m c e q)
    have hb : (fun q : Fin 192 => (iblk m c 4 t : Vec Ideal S1x384 .f32) (ix2 (0 : Fin 1) (padCol q))) = bhhIn m c :=
      funext fun q => (congrFun (iblk4_eq m c t) (ix2 (0 : Fin 1) (padCol q))).trans (bhh_apply m c q)
    exact (pay1_apply _ _ _ _ r d).trans
      (congrFun (congr (congr (congr (congrArg Spec.next (funext hs)) hw) hb) (funext fun e => ih (by omega) e)) d)

/-- The state scratch before point `n`: each entity's state after `64 n` steps. -/
theorem stAt_apply (c : Dev nD) (n : ℕ) (hn : n ≤ 32) (r : Fin 128) (d : Fin 64) :
    stAt m c n (ix2 r d) = entity m c ⟨r.val / 8, by have := r.isLt; omega⟩ ⟨r.val % 8, Nat.mod_lt _ (by decide)⟩ (64 * n) d := by
  induction n generalizing d with
  | zero =>
    exact (pay11_apply _ r d).trans ((congrFun (iblk6_eq m c _) _).trans (congrFun (V_main_arg8 m c) _))
  | succ n ih =>
    have hN : cfg0.N = 32 := N_0
    rw [stAt_succ m c ⟨n, by omega⟩]
    exact steps_apply m c ⟨n, by omega⟩ r (fun d => ih (by omega) d) 64 (le_refl _) d

/-! ## The output array -/

/-- What the output array ends with: each entity's state after every step. -/
def target (c : Dev nD) : Vec Ideal S16x2048x8x64 .f32 := fun i =>
  entity m c (i 0 : Fin 16) (i 2 : Fin 8) ((i 1).val + 1) (i 3 : Fin 64)

/-- The block a point writes back is the target's block. -/
theorem flushed_eq (c : Dev nD) (t : Fin cfg0.N) :
    (dats m 0 c).flushed 7 t = (win0_7.blk t).view.read (Elt Ideal) (target m c : Buf (Elt Ideal) ((c : Thread nD τ).loc main_v39)) := by
  obtain ⟨e0, e1, e2, e3⟩ := index7 t
  show (cfg0.win 7).cut (grid0.coords t) ((dats m 0 c).after 7 t) = _
  rw [after_7]
  funext y
  show outBlock (gatesAt m c t) (iblk m c 4 t) (iblk m c 5 t) (stAt m c t.val) y = target m c (((cfg0.win 7).blk t).view.emb y)
  have h0 : (y 0).val < 16 := (y 0).isLt
  have h1 : (y 1).val < 64 := (y 1).isLt
  have h2 : (y 2).val < 8 := (y 2).isLt
  have h3 : (y 3).val < 64 := (y 3).isLt
  have ht := points t
  have he : ((cfg0.win 7).blk t).view.emb y = ix4 (⟨(y 0).val, h0⟩ : Fin 16) (⟨64 * t.val + (y 1).val, by omega⟩ : Fin 2048) (⟨(y 2).val, h2⟩ : Fin 8) (⟨(y 3).val, h3⟩ : Fin 64) := by
    funext a; apply Fin.ext
    match a with
    | ⟨0, _⟩ => show win0_7.index t 0 * 16 + 1 * (y 0).val = (y 0).val; omega
    | ⟨1, _⟩ => show win0_7.index t 1 * 64 + 1 * (y 1).val = 64 * t.val + (y 1).val; omega
    | ⟨2, _⟩ => show win0_7.index t 2 * 8 + 1 * (y 2).val = (y 2).val; omega
    | ⟨3, _⟩ => show win0_7.index t 3 * 64 + 1 * (y 3).val = (y 3).val; omega
  rw [he]
  refine (steps_apply m c t (⟨(y 0).val * 8 + (y 2).val, by omega⟩ : Fin 128) (fun d => stAt_apply m c t.val (by omega) _ d) ((y 1).val + 1) (by omega) (y 3)).trans ?_
  show entity m c ⟨((y 0).val * 8 + (y 2).val) / 8, _⟩ ⟨((y 0).val * 8 + (y 2).val) % 8, _⟩ (64 * t.val + ((y 1).val + 1)) (y 3)
    = entity m c ⟨(y 0).val, h0⟩ ⟨(y 2).val, h2⟩ (64 * t.val + (y 1).val + 1) ⟨(y 3).val, h3⟩
  have hb : (⟨((y 0).val * 8 + (y 2).val) / 8, by omega⟩ : Fin 16) = ⟨(y 0).val, h0⟩ := Fin.ext (by show ((y 0).val * 8 + (y 2).val) / 8 = (y 0).val; omega)
  have hn : (⟨((y 0).val * 8 + (y 2).val) % 8, by omega⟩ : Fin 8) = ⟨(y 2).val, h2⟩ := Fin.ext (by show ((y 0).val * 8 + (y 2).val) % 8 = (y 2).val; omega)
  rw [hb, hn]
  rfl

/-- A point writes the 64 steps from `64 t`. -/
theorem mem_blk (t : Fin cfg0.N) (i : S16x2048x8x64.Idx) :
    i ∈ ((cfg0.win 7).blk t).view.set ↔ t.val * 64 ≤ (i 1 : Nat) ∧ (i 1 : Nat) < t.val * 64 + 64 := by
  show i ∈ ((View.whole main_v39).slice (win0_7.rect t)).set ↔ _
  rw [View.set_slice_whole, Rect.mem_set_unit]
  have h0 : (i 0 : Nat) < 16 := (i 0).isLt
  have h2 : (i 2 : Nat) < 8 := (i 2).isLt
  have h3 : (i 3 : Nat) < 64 := (i 3).isLt
  have e : win0_7.index t 0 * win0_7.size 0 = 0 ∧ win0_7.xsize (grid0.coords t) 0 = 16
      ∧ win0_7.index t 1 * win0_7.size 1 = t.val * 64 ∧ win0_7.xsize (grid0.coords t) 1 = 64
      ∧ win0_7.index t 2 * win0_7.size 2 = 0 ∧ win0_7.xsize (grid0.coords t) 2 = 8
      ∧ win0_7.index t 3 * win0_7.size 3 = 0 ∧ win0_7.xsize (grid0.coords t) 3 = 64 := by
    obtain ⟨e0, e1, e2, e3⟩ := index7 t
    rw [e0, e1, e2, e3]
    exact ⟨rfl, rfl, rfl, rfl, rfl, rfl, rfl, rfl⟩
  obtain ⟨a0, x0, a1, x1, a2, x2, a3, x3⟩ := e
  refine ⟨fun h => ?_, fun h a => ?_⟩
  · have : win0_7.index t 1 * win0_7.size 1 ≤ (i 1 : Nat) ∧ (i 1 : Nat) < win0_7.index t 1 * win0_7.size 1 + win0_7.xsize (grid0.coords t) 1 := h 1
    rw [a1, x1] at this; exact this
  · match a with
    | ⟨0, _⟩ => show win0_7.index t 0 * win0_7.size 0 ≤ (i 0 : Nat) ∧ (i 0 : Nat) < win0_7.index t 0 * win0_7.size 0 + win0_7.xsize (grid0.coords t) 0
                rw [a0, x0]; omega
    | ⟨1, _⟩ => show win0_7.index t 1 * win0_7.size 1 ≤ (i 1 : Nat) ∧ (i 1 : Nat) < win0_7.index t 1 * win0_7.size 1 + win0_7.xsize (grid0.coords t) 1
                rw [a1, x1]; exact h
    | ⟨2, _⟩ => show win0_7.index t 2 * win0_7.size 2 ≤ (i 2 : Nat) ∧ (i 2 : Nat) < win0_7.index t 2 * win0_7.size 2 + win0_7.xsize (grid0.coords t) 2
                rw [a2, x2]; omega
    | ⟨3, _⟩ => show win0_7.index t 3 * win0_7.size 3 ≤ (i 3 : Nat) ∧ (i 3 : Nat) < win0_7.index t 3 * win0_7.size 3 + win0_7.xsize (grid0.coords t) 3
                rw [a3, x3]; omega

/-- Every element of the output lies in the block of a point that writes back. -/
theorem cover (i : S16x2048x8x64.Idx) :
    ∃ t : Fin cfg0.N, (cfg0.win 7).flush t = true ∧ i ∈ ((cfg0.win 7).blk t).view.set := by
  have h1 : (i 1 : Nat) < 2048 := (i 1).isLt
  have hN : cfg0.N = 32 := N_0
  refine ⟨⟨(i 1 : Nat) / 64, by omega⟩, flush0_7 _, ?_⟩
  rw [mem_blk]
  dsimp only
  omega

/-- The output array ends at the target. -/
theorem final (c : Dev nD) : (dats m 0 c).arrAt 7 cfg0.N = (target m c : Buf (Elt Ideal) ((c : Thread nD τ).loc main_v39)) :=
  (dats m 0 c).arrAt_eq_of_cover 7 (target m c) (fun t _ => flushed_eq m c t) cover

/-- The run: the stacked states at `target`, the sequence at its reshape. -/
theorem run_values : θ_run defs (onTc (τ := τ) (main (F := Ideal))) ⟨m, fun _ => 0, ρ⟩ fun r => ∀ c : Dev nD,
      r.2.mem ((c : Thread nD τ).loc main_v40) = (shapeCast S16x2048x512 (target m c) shapeCasts_S16x2048x8x64_S16x2048x512 : Buf (Elt Ideal) ((c : Thread nD τ).loc main_v40))
      ∧ r.2.mem ((c : Thread nD τ).loc main_v39) = (target m c : Buf (Elt Ideal) ((c : Thread nD τ).loc main_v39)) :=
  (θ_run defs _ _).mono (fun r h c => ⟨by
      have := (h c).2 main_v40 (Pipeline.mem_restRefs_of main_v40 (by decide) (by decide))
      refine this.trans ?_
      show Pipeline.afterTail₀ cfgs (dats m) 0 (V0 m) [hostOps1] c main_v40 = _
      unfold Pipeline.afterTail₀
      rw [show [hostOps1 (F := Ideal)].flatten = hostOps1 from rfl]
      unfold hostOps1
      after_region_results
      funext i
      exact congrFun (congrArg (fun x : Vec Ideal S16x2048x8x64 .f32 => shapeCast S16x2048x512 x shapeCasts_S16x2048x8x64_S16x2048x512)
        ((Pipeline.withArrays_arr (cfgs 0).spec launch0.win.arr_inj c (V0 m c) (fun w => (dats m 0 c).arrAt w (cfgs 0).N) 7).trans (final m c))) i, ((h c).1 7).trans (final m c)⟩) (run_post m ρ)

end Cert.KernelIdeal.Hand

end
-- ==== Proof.Row.lean ====
/- Reads of a dynamic slice and of a dynamic update of one leading row, at an index. -/
module

public import Idealize.ShloMosaic.Lib.Pointwise
public import Idealize.ShloMosaic.Lib.VecWindow
public import Idealize.ShloMosaic.Lib.LayoutPointwise
public import Idealize.ShloMosaic.Lib.DynamicIndex

@[expose] public section

noncomputable section

namespace Cert.Row

open Idealize.ShloMosaic

variable {α : Type} {N A B C : ℕ}

/-- A dynamic slice of one leading row that starts at row `k`: that row. -/
theorem slice_row (x : (⟨3, ![N, A, B]⟩ : Shape).Idx → α) (start : Fin 3 → ℤ) (h : (⟨3, ![N, A, B]⟩ : Shape).Slices (fun _ => 0) ⟨3, ![1, A, B]⟩)
    (k : Fin N) (h0 : start 0 = (k.val : ℤ)) (h1 : start 1 = 0) (h2 : start 2 = 0) :
    Host.dynamicSlice ⟨3, ![1, A, B]⟩ x start h = fun i => x (ix3 k (i 1 : Fin A) (i 2 : Fin B)) := by
  have hk : k.val + 1 ≤ N := k.isLt
  funext i
  have hi : (i 0).val = 0 := by have : (i 0).val < 1 := (i 0).isLt; omega
  have hoff : (⟨3, ![N, A, B]⟩ : Shape).Slices ![k.val, 0, 0] ⟨3, ![1, A, B]⟩ := ⟨rfl, fun a => by
    match a with
    | ⟨0, _⟩ => exact hk
    | ⟨1, _⟩ => exact (Nat.zero_add A).le
    | ⟨2, _⟩ => exact (Nat.zero_add B).le⟩
  rw [Host.dynamicSlice_eq_extractStridedSlice ⟨3, ![1, A, B]⟩ x start ![k.val, 0, 0] h hoff (fun a => by
    match a with
    | ⟨0, _⟩ => exact h0
    | ⟨1, _⟩ => exact h1
    | ⟨2, _⟩ => exact h2)]
  exact extractStridedSlice_apply _ x hoff i (ix3 k (i 1 : Fin A) (i 2 : Fin B)) (fun a => by
    match a with
    | ⟨0, _⟩ => show k.val = k.val + (i 0).val; omega
    | ⟨1, _⟩ => exact (Nat.zero_add _).symm
    | ⟨2, _⟩ => exact (Nat.zero_add _).symm)

/-- A dynamic update of one leading row that starts at row `k`: the update at that row, the operand at every other. -/
theorem update_row (x : (⟨4, ![N, A, B, C]⟩ : Shape).Idx → α) (u : (⟨4, ![1, A, B, C]⟩ : Shape).Idx → α) (start : Fin 4 → ℤ)
    (h : (⟨4, ![N, A, B, C]⟩ : Shape).Slices (fun _ => 0) ⟨4, ![1, A, B, C]⟩)
    (k : Fin N) (h0 : start 0 = (k.val : ℤ)) (h1 : start 1 = 0) (h2 : start 2 = 0) (h3 : start 3 = 0)
    (s : Fin N) (a : Fin A) (b : Fin B) (c : Fin C) :
    Host.dynamicUpdateSlice x u start h (ix4 s a b c) = if s = k then u (ix4 (0 : Fin 1) a b c) else x (ix4 s a b c) := by
  have hk : k.val + 1 ≤ N := k.isLt
  have c0 := Host.clampedStart_of_le h.1 start 0 k.val h0 hk
  have c1 := Host.clampedStart_of_le h.1 start 1 0 h1 (Nat.zero_add A).le
  have c2 := Host.clampedStart_of_le h.1 start 2 0 h2 (Nat.zero_add B).le
  have c3 := Host.clampedStart_of_le h.1 start 3 0 h3 (Nat.zero_add C).le
  rw [Host.dynamicUpdateSlice_apply]
  by_cases hs : s = k
  · subst hs
    rw [if_pos rfl, dif_pos (fun j => by
      match j with
      | ⟨0, _⟩ => exact ⟨c0.le, by show s.val < Host.clampedStart _ _ h.1 start 0 + 1; omega⟩
      | ⟨1, _⟩ => exact ⟨c1.le.trans (Nat.zero_le _), by show a.val < Host.clampedStart _ _ h.1 start 1 + A; have := a.isLt; omega⟩
      | ⟨2, _⟩ => exact ⟨c2.le.trans (Nat.zero_le _), by show b.val < Host.clampedStart _ _ h.1 start 2 + B; have := b.isLt; omega⟩
      | ⟨3, _⟩ => exact ⟨c3.le.trans (Nat.zero_le _), by show c.val < Host.clampedStart _ _ h.1 start 3 + C; have := c.isLt; omega⟩)]
    refine congrArg u ?_
    rw [Shape.Idx.norm_def]
    funext j
    apply Fin.ext
    match j with
    | ⟨0, _⟩ => show s.val - Host.clampedStart _ _ h.1 start 0 = 0; omega
    | ⟨1, _⟩ => show a.val - Host.clampedStart _ _ h.1 start 1 = a.val; omega
    | ⟨2, _⟩ => show b.val - Host.clampedStart _ _ h.1 start 2 = b.val; omega
    | ⟨3, _⟩ => show c.val - Host.clampedStart _ _ h.1 start 3 = c.val; omega
  · rw [if_neg hs, dif_neg]
    intro hin
    have := hin 0
    have e : Host.clampedStart _ _ h.1 start 0 ≤ s.val ∧ s.val < Host.clampedStart _ _ h.1 start 0 + 1 := this
    exact hs (Fin.ext (by omega))

end Cert.Row

end
-- ==== Proof.RValue.lean ====
/- The reference's results at the ideal values: what its loop enters with, what one trip computes, what the carried arrays hold after any number of trips, and the two results. -/
module

public import proofs.«01_k».proof.Proof.Gen.ReferenceIdeal.Run
public import proofs.«01_k».proof.Proof.Spec
public import proofs.«01_k».proof.Proof.Row
public import Idealize.ShloMosaic.Lib.Claim
public import Idealize.ShloMosaic.Lib.Quiescent
public import Idealize.ShloMosaic.Lib.Pointwise
public import Idealize.ShloMosaic.Lib.VecWindow
public import Idealize.ShloMosaic.Lib.LayoutPointwise
public import Idealize.ShloMosaic.Lib.StableHlo.ReadAt
public import Idealize.ShloMosaic.Lib.Tactic.CleanTypes

@[expose] public section

set_option maxRecDepth 16384

noncomputable section

namespace Cert.ReferenceIdeal.Hand

open Idealize.ShloMosaic Idealize.ShloMosaic.TcCoe Idealize.ShloMosaic.Tactic Idealize.ShloMosaic.StableHlo
open Idealize.SL Idealize.SL.RA Idealize.SL.BI Idealize.SL.Sem
open Cert.ReferenceIdeal.Gen Cert.ReferenceIdeal.Value

variable (m : (ℓ : Loc nD τ sig) → Buf (Elt Ideal) ℓ) (ρ : Dev nD → PrngReg)

/-- One entry of the hidden sequence. -/
def hIn (c : Dev nD) (b : Fin 16) (s : Fin 2048) (d : Fin 1024) : EReal :=
  (m ((c : Thread nD τ).loc main_arg0) : Vec Ideal S16x2048x1024 .f32) (ix3 b s d)

/-- One entry of the entity keys. -/
def keysIn (c : Dev nD) (n : Fin 8) (d : Fin 1024) : EReal :=
  (m ((c : Thread nD τ).loc main_arg1) : Vec Ideal S8x1024 .f32) (ix2 n d)

/-- One entry of the input projection's weights. -/
def wiIn (c : Dev nD) (e : Fin 64) (d : Fin 1024) : EReal :=
  (m ((c : Thread nD τ).loc main_arg2) : Vec Ideal S64x1024 .f32) (ix2 e d)

/-- One entry of the input projection's bias. -/
def biIn (c : Dev nD) (e : Fin 64) : EReal :=
  (m ((c : Thread nD τ).loc main_arg3) : Vec Ideal S64 .f32) (ix1 e)

/-- One entry of the cell's input weights. -/
def wihIn (c : Dev nD) (q : Fin 192) (e : Fin 64) : EReal :=
  (m ((c : Thread nD τ).loc main_arg4) : Vec Ideal S192x64 .f32) (ix2 q e)

/-- One entry of the cell's state weights. -/
def whhIn (c : Dev nD) (q : Fin 192) (e : Fin 64) : EReal :=
  (m ((c : Thread nD τ).loc main_arg5) : Vec Ideal S192x64 .f32) (ix2 q e)

/-- One entry of the cell's input bias. -/
def bihIn (c : Dev nD) (q : Fin 192) : EReal :=
  (m ((c : Thread nD τ).loc main_arg6) : Vec Ideal S192 .f32) (ix1 q)

/-- One entry of the cell's state bias. -/
def bhhIn (c : Dev nD) (q : Fin 192) : EReal :=
  (m ((c : Thread nD τ).loc main_arg7) : Vec Ideal S192 .f32) (ix1 q)

/-- One entry of the initial entities. -/
def startIn (c : Dev nD) (n : Fin 8) (d : Fin 64) : EReal :=
  (m ((c : Thread nD τ).loc main_arg8) : Vec Ideal S8x64 .f32) (ix2 n d)

/-- The loop's entry. -/
abbrev entry (c : Dev nD) : Valuation τ sig (Elt Ideal) := entryContents preI m c

/-- The loop enters with the cell's input weights. -/
theorem entry_wih (c : Dev nD) : entry m c (Proc.devRef .tc main_v24_2) = m ((c : Thread nD τ).loc main_arg4) := by
  unfold entry; simp only [entryContents, afterL_cons, afterL_nil]; after_results_entrywise []

/-- The loop enters with the cell's input bias. -/
theorem entry_bih (c : Dev nD) : entry m c (Proc.devRef .tc main_v24_3) = m ((c : Thread nD τ).loc main_arg6) := by
  unfold entry; simp only [entryContents, afterL_cons, afterL_nil]; after_results_entrywise []

/-- The loop enters with the cell's state weights. -/
theorem entry_whh (c : Dev nD) : entry m c (Proc.devRef .tc main_v24_4) = m ((c : Thread nD τ).loc main_arg5) := by
  unfold entry; simp only [entryContents, afterL_cons, afterL_nil]; after_results_entrywise []

/-- The loop enters with the cell's state bias. -/
theorem entry_bhh (c : Dev nD) : entry m c (Proc.devRef .tc main_v24_5) = m ((c : Thread nD τ).loc main_arg7) := by
  unfold entry; simp only [entryContents, afterL_cons, afterL_nil]; after_results_entrywise []

/-- The loop enters with the projected inputs. -/
theorem entry_hp (c : Dev nD) (s : Fin 2048) (b : Fin 16) (e : Fin 64) :
    (entry m c (Proc.devRef .tc main_v24_1) : Vec Ideal S2048x16x64 .f32) (ix3 s b e) = ((∑ d, hIn m c b s d * wiIn m c e d) + biIn m c e : EReal) := by
  unfold entry; simp only [entryContents, afterL_cons, afterL_nil]
  after_reads_at
  clean_types
  simp only [id_eq]
  pointwise
  rfl

/-- The loop enters with the initial entities in every batch row. -/
theorem entry_start (c : Dev nD) (b : Fin 16) (n : Fin 8) (d : Fin 64) :
    (entry m c (Proc.devRef .tc main_v24_7) : Vec Ideal S16x8x64 .f32) (ix3 b n d) = startIn m c n d := by
  unfold entry; simp only [entryContents, afterL_cons, afterL_nil]
  after_reads_at
  clean_types
  simp only [id_eq]
  pointwise
  rfl

/-- The loop enters with the routing weights. -/
theorem entry_w (c : Dev nD) (s : Fin 2048) (b : Fin 16) (n : Fin 8) :
    (entry m c (Proc.devRef .tc main_v24_0) : Vec Ideal S2048x16x8 .f32) (ix3 s b n) = Spec.soft (Spec.logitR (fun d => hIn m c b s d) (keysIn m c)) n := by
  unfold entry; simp only [entryContents, afterL_cons, afterL_nil]
  after_reads_at
  clean_types
  simp only [id_eq]
  pointwise
  simp only [Spec.least_eq, max_bot_left]
  rfl

section Step
variable (X : Valuation τ sig (Elt Ideal)) (k : Fin 2048) (hk : X (Proc.devRef .tc main_v24_6) = fun _ => BitVec.ofNat 32 k.val)

/-! The loop's carried buffers, read at an index. -/

/-- The routing weights the loop carries. -/
def wAt (s : Fin 2048) (b : Fin 16) (n : Fin 8) : EReal := (X (Proc.devRef .tc main_v24_0) : Vec Ideal S2048x16x8 .f32) (ix3 s b n)
/-- The projected inputs the loop carries. -/
def hpAt (s : Fin 2048) (b : Fin 16) (e : Fin 64) : EReal := (X (Proc.devRef .tc main_v24_1) : Vec Ideal S2048x16x64 .f32) (ix3 s b e)
/-- The cell's input weights the loop carries. -/
def wihAt (q : Fin 192) (e : Fin 64) : EReal := (X (Proc.devRef .tc main_v24_2) : Vec Ideal S192x64 .f32) (ix2 q e)
/-- The cell's input bias the loop carries. -/
def bihAt (q : Fin 192) : EReal := (X (Proc.devRef .tc main_v24_3) : Vec Ideal S192 .f32) (ix1 q)
/-- The cell's state weights the loop carries. -/
def whhAt (q : Fin 192) (e : Fin 64) : EReal := (X (Proc.devRef .tc main_v24_4) : Vec Ideal S192x64 .f32) (ix2 q e)
/-- The cell's state bias the loop carries. -/
def bhhAt (q : Fin 192) : EReal := (X (Proc.devRef .tc main_v24_5) : Vec Ideal S192 .f32) (ix1 q)
/-- The state the loop carries. -/
def stateAt (b : Fin 16) (n : Fin 8) (d : Fin 64) : EReal := (X (Proc.devRef .tc main_v24_7) : Vec Ideal S16x8x64 .f32) (ix3 b n d)
/-- The stack of states the loop carries. -/
def stackAt (s : Fin 2048) (b : Fin 16) (n : Fin 8) (d : Fin 64) : EReal := (X (Proc.devRef .tc main_v24_8) : Vec Ideal S2048x16x8x64 .f32) (ix4 s b n d)

/-- The counter, read as an integer. -/
theorem toInt_small : (BitVec.ofNat 32 k.val).toInt = (k.val : ℤ) := by
  have := k.isLt
  rw [BitVec.toInt_eq_toNat_of_lt] <;> rw [BitVec.toNat_ofNat] <;> omega

include hk in
/-- A trip's gate inputs, at an index. -/
theorem gx_apply (b : Fin 16) (n : Fin 8) (q : Fin 192) :
    (res_main_while0b_v37 X : Vec Ideal S16x8x192 .f32) (ix3 b n q)
      = (∑ e : Fin 64, (wAt X k b n * hpAt X k b e) * wihAt X q e) + bihAt X q := by
  unfold res_main_while0b_v37
  rw [hk, Row.slice_row (N := 2048) (A := 16) (B := 8) _ _ _ k (toInt_small k) rfl rfl,
    Row.slice_row (N := 2048) (A := 16) (B := 64) _ _ _ k (toInt_small k) rfl rfl]
  clean_types
  pointwise
  rfl

/-- A trip's gate products of the state, at an index. -/
theorem gh_apply (b : Fin 16) (n : Fin 8) (q : Fin 192) :
    (res_main_while0b_v41 X : Vec Ideal S16x8x192 .f32) (ix3 b n q)
      = Spec.gh (whhAt X) (bhhAt X)
         (stateAt X b n) q := by
  unfold res_main_while0b_v41
  clean_types
  pointwise
  rfl

/-- A trip's new state, at an index. -/
theorem new_apply (b : Fin 16) (n : Fin 8) (d : Fin 64) :
    (res_main_while0b_v69 X : Vec Ideal S16x8x64 .f32) (ix3 b n d)
      = Spec.next (fun q => (res_main_while0b_v37 X : Vec Ideal S16x8x192 .f32) (ix3 b n q))
         (whhAt X) (bhhAt X)
         (stateAt X b n) d := by
  unfold res_main_while0b_v69 res_main_while0b_v59
  clean_types
  pointwise
  have e0 : Spec.col 0 d = ⟨d.val, by have := d.isLt; omega⟩ := Fin.ext (by show 64 * 0 + d.val = d.val; omega)
  have e1 : Spec.col 1 d = ⟨64 + d.val, by have := d.isLt; omega⟩ := rfl
  have e2 : Spec.col 2 d = ⟨128 + d.val, by have := d.isLt; omega⟩ := rfl
  unfold Spec.next Spec.cell
  rw [← gh_apply, ← gh_apply, ← gh_apply, e0, e1, e2]
  rfl

include hk in
/-- A trip writes its row of the stack and leaves the others. -/
theorem stack_apply (s : Fin 2048) (b : Fin 16) (n : Fin 8) (d : Fin 64) :
    (step_main_v24_8 X : Vec Ideal S2048x16x8x64 .f32) (ix4 s b n d)
     = if s = k then (res_main_while0b_v69 X : Vec Ideal S16x8x64 .f32) (ix3 b n d) else stackAt X s b n d := by
  unfold step_main_v24_8
  rw [hk]
  refine (Row.update_row (N := 2048) (A := 16) (B := 8) (C := 64) _ _ _ _ k (toInt_small k) rfl rfl rfl s b n d).trans ?_
  refine congrArg (fun u : EReal => if s = k then u else stackAt X s b n d) ?_
  clean_types
  pointwise

end Step

/-! ## The loop -/

variable (c : Dev nD)

/-- The contents after `k` trips. -/
abbrev iter (k : ℕ) : Valuation τ sig (Elt Ideal) := STEP^[k] (entry m c)

/-- One more trip. -/
theorem iter_succ (k : ℕ) : iter m c (k + 1) = STEP (iter m c k) := Function.iterate_succ_apply' STEP k (entry m c)

/-- The loop leaves slot 0 as it entered it. -/
theorem iter_0 (k : ℕ) : iter m c k (Proc.devRef .tc main_v24_0) = entry m c (Proc.devRef .tc main_v24_0) := by
  induction k with
  | zero => rfl
  | succ k ih => rw [iter_succ, STEP_main_v24_0, ih]

/-- The loop leaves slot 1 as it entered it. -/
theorem iter_1 (k : ℕ) : iter m c k (Proc.devRef .tc main_v24_1) = entry m c (Proc.devRef .tc main_v24_1) := by
  induction k with
  | zero => rfl
  | succ k ih => rw [iter_succ, STEP_main_v24_1, ih]

/-- The loop leaves slot 2 as it entered it. -/
theorem iter_2 (k : ℕ) : iter m c k (Proc.devRef .tc main_v24_2) = entry m c (Proc.devRef .tc main_v24_2) := by
  induction k with
  | zero => rfl
  | succ k ih => rw [iter_succ, STEP_main_v24_2, ih]

/-- The loop leaves slot 3 as it entered it. -/
theorem iter_3 (k : ℕ) : iter m c k (Proc.devRef .tc main_v24_3) = entry m c (Proc.devRef .tc main_v24_3) := by
  induction k with
  | zero => rfl
  | succ k ih => rw [iter_succ, STEP_main_v24_3, ih]

/-- The loop leaves slot 4 as it entered it. -/
theorem iter_4 (k : ℕ) : iter m c k (Proc.devRef .tc main_v24_4) = entry m c (Proc.devRef .tc main_v24_4) := by
  induction k with
  | zero => rfl
  | succ k ih => rw [iter_succ, STEP_main_v24_4, ih]

/-- The loop leaves slot 5 as it entered it. -/
theorem iter_5 (k : ℕ) : iter m c k (Proc.devRef .tc main_v24_5) = entry m c (Proc.devRef .tc main_v24_5) := by
  induction k with
  | zero => rfl
  | succ k ih => rw [iter_succ, STEP_main_v24_5, ih]

/-- The counter counts the trips. -/
theorem iter_6 (k : ℕ) : iter m c k (Proc.devRef .tc main_v24_6) = fun _ => BitVec.ofNat 32 k := by
  induction k with
  | zero => exact ctr_entry m c
  | succ k ih =>
    rw [iter_succ, STEP_main_v24_6]
    unfold step_main_v24_6
    rw [ih]
    funext i
    show BitVec.ofNat 32 k + 1#32 = BitVec.ofNat 32 (k + 1)
    apply BitVec.eq_of_toNat_eq
    simp [BitVec.toNat_add, BitVec.toNat_ofNat]

/-- The gate inputs of entity `n` of batch row `b` at step `s`, from the arguments. -/
def gxAt (b : Fin 16) (n : Fin 8) (s : ℕ) (q : Fin 192) : EReal :=
  Spec.gxR (fun d => hIn m c b (⟨s % 2048, Nat.mod_lt _ (by decide)⟩ : Fin 2048) d) (keysIn m c) (wiIn m c) (biIn m c) (wihIn m c) (bihIn m c) n q

/-- The state of entity `n` of batch row `b` after `s` steps. -/
def entity (b : Fin 16) (n : Fin 8) (s : ℕ) (d : Fin 64) : EReal :=
  Spec.state (gxAt m c b n) (whhIn m c) (bhhIn m c) (startIn m c n) s d

/-- A trip's gate inputs. -/
theorem gx_iter (k : ℕ) (hk : k < 2048) (b : Fin 16) (n : Fin 8) (q : Fin 192) :
    (res_main_while0b_v37 (iter m c k) : Vec Ideal S16x8x192 .f32) (ix3 b n q) = gxAt m c b n k q := by
  have hs : (⟨k % 2048, Nat.mod_lt _ (by decide)⟩ : Fin 2048) = ⟨k, hk⟩ := Fin.ext (Nat.mod_eq_of_lt hk)
  have hw : wAt (iter m c k) ⟨k, hk⟩ b n = Spec.soft (Spec.logitR (fun d => hIn m c b ⟨k, hk⟩ d) (keysIn m c)) n :=
    (congrArg (fun u : Vec Ideal S2048x16x8 .f32 => u (ix3 (⟨k, hk⟩ : Fin 2048) b n)) (iter_0 m c k)).trans (entry_w m c _ b n)
  have hp : ∀ e, hpAt (iter m c k) ⟨k, hk⟩ b e = (∑ d, hIn m c b ⟨k, hk⟩ d * wiIn m c e d) + biIn m c e := fun e =>
    (congrArg (fun u : Vec Ideal S2048x16x64 .f32 => u (ix3 (⟨k, hk⟩ : Fin 2048) b e)) (iter_1 m c k)).trans (entry_hp m c _ b e)
  have hi : ∀ e, wihAt (iter m c k) q e = wihIn m c q e := fun e =>
    congrArg (fun u : Vec Ideal S192x64 .f32 => u (ix2 q e)) ((iter_2 m c k).trans (entry_wih m c))
  have hb : bihAt (iter m c k) q = bihIn m c q :=
    congrArg (fun u : Vec Ideal S192 .f32 => u (ix1 q)) ((iter_3 m c k).trans (entry_bih m c))
  refine (gx_apply (iter m c k) ⟨k, hk⟩ (iter_6 m c k) b n q).trans ?_
  unfold gxAt Spec.gxR
  rw [hs]
  simp only [hw, hp, hi, hb]

/-- A trip's new states. -/
theorem new_iter (k : ℕ) (hk : k < 2048) (b : Fin 16) (n : Fin 8) (hst : stateAt (iter m c k) b n = entity m c b n k) (d : Fin 64) :
    (res_main_while0b_v69 (iter m c k) : Vec Ideal S16x8x64 .f32) (ix3 b n d) = entity m c b n (k + 1) d := by
  have hw : whhAt (iter m c k) = whhIn m c := funext fun q => funext fun e =>
    congrArg (fun u : Vec Ideal S192x64 .f32 => u (ix2 q e)) ((iter_4 m c k).trans (entry_whh m c))
  have hb : bhhAt (iter m c k) = bhhIn m c := funext fun q =>
    congrArg (fun u : Vec Ideal S192 .f32 => u (ix1 q)) ((iter_5 m c k).trans (entry_bhh m c))
  exact (new_apply (iter m c k) b n d).trans
    (congrFun (congr (congr (congr (congrArg Spec.next (funext fun q => gx_iter m c k hk b n q)) hw) hb) hst) d)

/-- The state after `k` trips. -/
theorem state_iter (k : ℕ) (hk : k ≤ 2048) (b : Fin 16) (n : Fin 8) : stateAt (iter m c k) b n = entity m c b n k := by
  induction k with
  | zero => exact funext fun d => entry_start m c b n d
  | succ k ih =>
    funext d
    refine Eq.trans ?_ (new_iter m c k (by omega) b n (ih (by omega)) d)
    exact congrArg (fun u : Vec Ideal S16x8x64 .f32 => u (ix3 b n d)) ((congrFun (iter_succ m c k) _).trans (STEP_main_v24_7 (iter m c k)))

/-- The rows of the stack below the trip count hold the states after their steps. -/
theorem stack_iter (k : ℕ) (hk : k ≤ 2048) (s : Fin 2048) (hs : s.val < k) (b : Fin 16) (n : Fin 8) (d : Fin 64) :
    stackAt (iter m c k) s b n d = entity m c b n (s.val + 1) d := by
  induction k with
  | zero => omega
  | succ k ih =>
    have e : stackAt (iter m c (k + 1)) s b n d = (step_main_v24_8 (iter m c k) : Vec Ideal S2048x16x8x64 .f32) (ix4 s b n d) :=
      congrArg (fun u : Vec Ideal S2048x16x8x64 .f32 => u (ix4 s b n d)) ((congrFun (iter_succ m c k) _).trans (STEP_main_v24_8 (iter m c k)))
    refine e.trans ((stack_apply (iter m c k) ⟨k, by omega⟩ (iter_6 m c k) s b n d).trans ?_)
    by_cases h : s = ⟨k, by omega⟩
    · rw [if_pos h]
      have hv : s.val = k := congrArg Fin.val h
      rw [hv]
      exact new_iter m c k (by omega) b n (state_iter m c k (by omega) b n) d
    · rw [if_neg h]
      exact ih (by omega) (by have : s.val ≠ k := fun e => h (Fin.ext e); omega)

/-! ## The results -/

/-- What the stacked result ends with: each entity's state after every step. -/
def target : Vec Ideal S16x2048x8x64 .f32 := fun i =>
  entity m c (i 0 : Fin 16) (i 2 : Fin 8) ((i 1).val + 1) (i 3 : Fin 64)

/-- The stacked result is the target. -/
theorem out_stack : (out_main_v25 (iter m c 2048) : Vec Ideal S16x2048x8x64 .f32) = target m c := by
  unfold out_main_v25
  funext i
  idx_vars i
  clean_types
  pointwise
  exact stack_iter m c 2048 (le_refl _) i1 i1.isLt i0 i2 i3

/-- The sequence is the target's reshape. -/
theorem out_seq : (out_main_v26 (iter m c 2048) : Vec Ideal S16x2048x512 .f32) = shapeCast S16x2048x512 (target m c) shapeCasts_S16x2048x8x64_S16x2048x512 :=
  congrArg (fun x : Vec Ideal S16x2048x8x64 .f32 => shapeCast S16x2048x512 x shapeCasts_S16x2048x8x64_S16x2048x512) (out_stack m c)

/-- The run: the stacked states at `target`, the sequence at its reshape, the arguments unchanged. -/
theorem run_values : θ_run defs (onTc (τ := τ) (main (F := Ideal))) ⟨m, fun _ => 0, ρ⟩ fun r => ∀ c : Dev nD,
      r.2.mem ((c.tc : Thread nD τ).loc main_v26) = (shapeCast S16x2048x512 (target m c) shapeCasts_S16x2048x8x64_S16x2048x512 : Buf (Elt Ideal) ((c.tc : Thread nD τ).loc main_v26))
      ∧ r.2.mem ((c.tc : Thread nD τ).loc main_v25) = (target m c : Buf (Elt Ideal) ((c.tc : Thread nD τ).loc main_v25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (out_seq m c), (h c).2.1.trans (out_stack m c), (h c).2.2⟩) (run m ρ)

end Cert.ReferenceIdeal.Hand

end
-- ==== Proof.Equation.lean ====
/- The two ideal programs compute the same arrays when the operands of the routing and of the input products are finite. -/
module

public import proofs.«01_k».proof.Defs
public import proofs.«01_k».proof.Proof.KValue
public import proofs.«01_k».proof.Proof.RValue
public import Idealize.ShloMosaic.Lib.Pointwise

@[expose] public section

set_option maxRecDepth 16384

noncomputable section

namespace Cert.Equation

open Idealize.ShloMosaic Idealize.ShloMosaic.TcCoe Idealize.SL.Sem

/-- The shape facts the precondition's broadcasts take. -/
theorem preFacts : Cert.Pre_finite_operands.Facts where
  bcast_S_S16x2048x1024 := by decide
  bcast_S_S8x1024 := by decide
  bcast_S_S64x1024 := by decide
  bcast_S_S192x64 := by decide

/-- The word of the bound in the precondition is the greatest extended real. -/
theorem bound_eq : Ideal.ofBits .f32 0x7F800000#32 = ⊤ := by simp [Ideal.ofBits, Ideal.ieee]

/-- An extended real whose magnitude compares below the bound is a real. -/
theorem real_of_bounded (x : EReal) (h : Ideal.cmp .olt (max x (-x)) (Ideal.ofBits .f32 0x7F800000#32) = 1#1) : ∃ r : ℝ, x = r := by
  have hlt : max x (-x) < ⊤ := by
    rw [bound_eq] at h
    by_contra hn
    have h' : BitVec.ofBool (decide (max x (-x) < ⊤)) = 1#1 := h
    rw [decide_eq_false hn] at h'
    exact absurd h' (by decide)
  induction x with
  | bot => simp at hlt
  | top => simp at hlt
  | coe r => exact ⟨r, rfl⟩

section Pre

variable (m : (ℓ : Loc Cert.KernelIdeal.nD Cert.KernelIdeal.τ Cert.KernelIdeal.sig) → Buf (Elt Ideal) ℓ)
variable (h : Cert.Pre_KernelIdeal_finite_operands (hPre_finite_operands := preFacts) m) (c : Dev Cert.KernelIdeal.nD)
include h

/-- The hidden states are reals. -/
theorem h_real (b : Fin 16) (s : Fin 2048) (d : Fin 1024) : ∃ r : ℝ, Cert.KernelIdeal.Hand.hIn m c b s d = r :=
  real_of_bounded _ (congrFun (h c).1 (ix3 b s d))

/-- The entity keys are reals. -/
theorem keys_real (n : Fin 8) (d : Fin 1024) : ∃ r : ℝ, Cert.KernelIdeal.Hand.keysIn m c n d = r :=
  real_of_bounded _ (congrFun (h c).2.1 (ix2 n d))

/-- The input projection's weights are reals. -/
theorem wi_real (e : Fin 64) (d : Fin 1024) : ∃ r : ℝ, Cert.KernelIdeal.Hand.wiIn m c e d = r :=
  real_of_bounded _ (congrFun (h c).2.2.1 (ix2 e d))

/-- The cell's input weights are reals. -/
theorem wih_real (q : Fin 192) (e : Fin 64) : ∃ r : ℝ, Cert.KernelIdeal.Hand.wihIn m c q e = r :=
  real_of_bounded _ (congrFun (h c).2.2.2 (ix2 q e))

end Pre

section Agree

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same nine arguments on device `c`. -/
abbrev SameArgs (c : Dev Cert.KernelIdeal.nD) : Prop :=
  m' ((c : Thread Cert.ReferenceIdeal.nD Cert.ReferenceIdeal.τ).loc Cert.ReferenceIdeal.main_arg0) = m ((c : Thread Cert.KernelIdeal.nD Cert.KernelIdeal.τ).loc Cert.KernelIdeal.main_arg0)
  ∧ m' ((c : Thread Cert.ReferenceIdeal.nD Cert.ReferenceIdeal.τ).loc Cert.ReferenceIdeal.main_arg1) = m ((c : Thread Cert.KernelIdeal.nD Cert.KernelIdeal.τ).loc Cert.KernelIdeal.main_arg1)
  ∧ m' ((c : Thread Cert.ReferenceIdeal.nD Cert.ReferenceIdeal.τ).loc Cert.ReferenceIdeal.main_arg2) = m ((c : Thread Cert.KernelIdeal.nD Cert.KernelIdeal.τ).loc Cert.KernelIdeal.main_arg2)
  ∧ m' ((c : Thread Cert.ReferenceIdeal.nD Cert.ReferenceIdeal.τ).loc Cert.ReferenceIdeal.main_arg3) = m ((c : Thread Cert.KernelIdeal.nD Cert.KernelIdeal.τ).loc Cert.KernelIdeal.main_arg3)
  ∧ m' ((c : Thread Cert.ReferenceIdeal.nD Cert.ReferenceIdeal.τ).loc Cert.ReferenceIdeal.main_arg4) = m ((c : Thread Cert.KernelIdeal.nD Cert.KernelIdeal.τ).loc Cert.KernelIdeal.main_arg4)
  ∧ m' ((c : Thread Cert.ReferenceIdeal.nD Cert.ReferenceIdeal.τ).loc Cert.ReferenceIdeal.main_arg5) = m ((c : Thread Cert.KernelIdeal.nD Cert.KernelIdeal.τ).loc Cert.KernelIdeal.main_arg5)
  ∧ m' ((c : Thread Cert.ReferenceIdeal.nD Cert.ReferenceIdeal.τ).loc Cert.ReferenceIdeal.main_arg6) = m ((c : Thread Cert.KernelIdeal.nD Cert.KernelIdeal.τ).loc Cert.KernelIdeal.main_arg6)
  ∧ m' ((c : Thread Cert.ReferenceIdeal.nD Cert.ReferenceIdeal.τ).loc Cert.ReferenceIdeal.main_arg7) = m ((c : Thread Cert.KernelIdeal.nD Cert.KernelIdeal.τ).loc Cert.KernelIdeal.main_arg7)
  ∧ m' ((c : Thread Cert.ReferenceIdeal.nD Cert.ReferenceIdeal.τ).loc Cert.ReferenceIdeal.main_arg8) = m ((c : Thread Cert.KernelIdeal.nD Cert.KernelIdeal.τ).loc Cert.KernelIdeal.main_arg8)

variable (c : Dev Cert.KernelIdeal.nD) (h : Cert.Pre_KernelIdeal_finite_operands (hPre_finite_operands := preFacts) m) (e : SameArgs m m' c)
include h e

/-- From the same arguments, the kernel's gate inputs are the reference's. -/
theorem gx_same (b : Fin 16) (n : Fin 8) (s : ℕ) (q : Fin 192) :
    Cert.ReferenceIdeal.Hand.gxAt m' c b n s q = Cert.KernelIdeal.Hand.gxAt m c b n s q := by
  have h0 : Cert.ReferenceIdeal.Hand.hIn m' c b = Cert.KernelIdeal.Hand.hIn m c b := funext fun s => funext fun d => congrFun e.1 (ix3 b s d)
  have h1 : Cert.ReferenceIdeal.Hand.keysIn m' c = Cert.KernelIdeal.Hand.keysIn m c := funext fun n => funext fun d => congrFun e.2.1 (ix2 n d)
  have h2 : Cert.ReferenceIdeal.Hand.wiIn m' c = Cert.KernelIdeal.Hand.wiIn m c := funext fun n => funext fun d => congrFun e.2.2.1 (ix2 n d)
  have h3 : Cert.ReferenceIdeal.Hand.biIn m' c = Cert.KernelIdeal.Hand.biIn m c := funext fun n => congrFun e.2.2.2.1 (ix1 n)
  have h4 : Cert.ReferenceIdeal.Hand.wihIn m' c = Cert.KernelIdeal.Hand.wihIn m c := funext fun n => funext fun d => congrFun e.2.2.2.2.1 (ix2 n d)
  have h6 : Cert.ReferenceIdeal.Hand.bihIn m' c = Cert.KernelIdeal.Hand.bihIn m c := funext fun n => congrFun e.2.2.2.2.2.2.1 (ix1 n)
  unfold Cert.ReferenceIdeal.Hand.gxAt Cert.KernelIdeal.Hand.gxAt
  rw [h0, h1, h2, h3, h4, h6]
  exact (Cert.Spec.gx_eq _ _ _ _ _ _ (fun d => h_real m h c b _ d) (keys_real m h c) (wi_real m h c) (wih_real m h c) n q).symm

/-- From the same arguments, the kernel's and the reference's states agree at every step. -/
theorem entity_same (b : Fin 16) (n : Fin 8) (s : ℕ) (d : Fin 64) :
    Cert.ReferenceIdeal.Hand.entity m' c b n s d = Cert.KernelIdeal.Hand.entity m c b n s d := by
  have hg : Cert.ReferenceIdeal.Hand.gxAt m' c b n = Cert.KernelIdeal.Hand.gxAt m c b n :=
    funext fun s => funext fun q => gx_same m m' c h e b n s q
  have h5 : Cert.ReferenceIdeal.Hand.whhIn m' c = Cert.KernelIdeal.Hand.whhIn m c := funext fun n => funext fun d => congrFun e.2.2.2.2.2.1 (ix2 n d)
  have h7 : Cert.ReferenceIdeal.Hand.bhhIn m' c = Cert.KernelIdeal.Hand.bhhIn m c := funext fun n => congrFun e.2.2.2.2.2.2.2.1 (ix1 n)
  have h8 : Cert.ReferenceIdeal.Hand.startIn m' c n = Cert.KernelIdeal.Hand.startIn m c n := funext fun d => congrFun e.2.2.2.2.2.2.2.2 (ix2 n d)
  unfold Cert.ReferenceIdeal.Hand.entity Cert.KernelIdeal.Hand.entity
  rw [hg, h5, h7, h8]

/-- From the same arguments, the two programs' stacked states are one array. -/
theorem target_same : Cert.ReferenceIdeal.Hand.target m' c = Cert.KernelIdeal.Hand.target m c :=
  funext fun i => entity_same m m' c h e (i 0) (i 2) ((i 1).val + 1) (i 3)

end Agree

/-- The ideal kernel and the ideal reference end with equal results. -/
theorem equal_results : Cert.algebraic_KernelIdeal_ReferenceIdeal_pre_finite_operands (hKernelIdeal := Cert.KernelIdeal.Gen.facts)
    (hReferenceIdeal := Cert.ReferenceIdeal.Gen.facts) (hPre_finite_operands := preFacts) := by
  intro m g m' g' h e
  refine ⟨fun c => shapeCast Cert.KernelIdeal.S16x2048x512 (Cert.KernelIdeal.Hand.target m c) Cert.KernelIdeal.Gen.facts.shapeCasts_S16x2048x8x64_S16x2048x512,
    fun c => Cert.KernelIdeal.Hand.target m c, ?_, ?_⟩
  · refine (θ_run Cert.KernelIdeal.defs _ _).mono ?_ (θ_run_and (Cert.KernelIdeal.Hand.run_values m g) (Cert.KernelIdeal.Hand.framed m g))
    exact fun r k c => ⟨(k.1 c).1, (k.1 c).2, k.2.1 c⟩
  · refine (θ_run Cert.ReferenceIdeal.defs _ _).mono ?_ (Cert.ReferenceIdeal.Hand.run_values m' g')
    exact fun r k c => ⟨(k c).1.trans (congrArg (fun x : Vec Ideal Cert.ReferenceIdeal.S16x2048x8x64 .f32 =>
        shapeCast Cert.ReferenceIdeal.S16x2048x512 x Cert.ReferenceIdeal.Gen.facts.shapeCasts_S16x2048x8x64_S16x2048x512) (target_same m m' c h (e c))),
      (k c).2.1.trans (target_same m m' c h (e c)), (k c).2.2⟩

end Cert.Equation

end
-- ==== Proof.lean ====
module

public import proofs.«01_k».proof.Defs
public import proofs.«01_k».proof.Proof.PFrame
public import proofs.«01_k».proof.Proof.KFrame
public import proofs.«01_k».proof.Proof.KValue
public import proofs.«01_k».proof.Proof.RValue
public import proofs.«01_k».proof.Proof.Equation
public import Idealize.ShloMosaic.Adequacy
public import Idealize.ShloMosaic.Init

@[expose] public section

noncomputable section

namespace Cert.Proof

open Idealize.ShloMosaic Idealize.SL.Sem

/-- The ideal reference runs from every memory, leaves its arguments as they were, and every semaphore ends at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩)
    (Cert.ReferenceIdeal.Value.run (F := Ideal) m g)

/-- Everything claimed. -/
theorem claim : Cert.Claim := ⟨Cert.Kernel.Gen.facts, Cert.KernelIdeal.Gen.facts, Cert.ReferenceIdeal.Gen.facts, Cert.Equation.preFacts,
  fun m g _ => Cert.Kernel.Hand.framed m g,
  fun m g _ => Cert.KernelIdeal.Hand.framed m g,
  fun m g _ => Cert.KernelIdeal.Hand.framed m g,
  reference_frame,
  fun m g _ => reference_frame m g trivial,
  trivial,
  Cert.Equation.equal_results⟩

end Cert.Proof

end
